-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20x54 : Shape := ⟨2, ![20, 54]⟩
abbrev S4096x2560 : Shape := ⟨2, ![4096, 2560]⟩
abbrev S2560x6912 : Shape := ⟨2, ![2560, 6912]⟩
abbrev S4096x6912 : Shape := ⟨2, ![4096, 6912]⟩
abbrev S54x2x2048 : Shape := ⟨3, ![54, 2, 2048]⟩
abbrev S2x6912x2048 : Shape := ⟨3, ![2, 6912, 2048]⟩
abbrev S2x16x6912 : Shape := ⟨3, ![2, 16, 6912]⟩
abbrev S2560x256 : Shape := ⟨2, ![2560, 256]⟩
abbrev S4096x256 : Shape := ⟨2, ![4096, 256]⟩
abbrev S2x2x2048 : Shape := ⟨3, ![2, 2, 2048]⟩
abbrev S2x256x2048 : Shape := ⟨3, ![2, 256, 2048]⟩
abbrev S2x16x256 : Shape := ⟨3, ![2, 16, 256]⟩
abbrev S1x1 : Shape := ⟨2, ![1, 1]⟩
abbrev S1x128 : Shape := ⟨2, ![1, 128]⟩
abbrev S128x128 : Shape := ⟨2, ![128, 128]⟩
abbrev S256x2560 : Shape := ⟨2, ![256, 2560]⟩
abbrev S256x256 : Shape := ⟨2, ![256, 256]⟩
abbrev S128 : Shape := ⟨1, ![128]⟩
abbrev S128x1 : Shape := ⟨2, ![128, 1]⟩
abbrev S1x1x128 : Shape := ⟨3, ![1, 1, 128]⟩
abbrev S1x128x128 : Shape := ⟨3, ![1, 128, 128]⟩

abbrev nBuf : Space → Nat
  | .hbm => 10
  | .vmem => 17
  | .smem => 2
  | _ => 0

abbrev bufTy : (tb : Table) → Fin (tcTables nBuf tb) → BufTy
  | .hbm, ⟨0, _⟩ => ⟨S20x54, .f32⟩
  | .hbm, ⟨1, _⟩ => ⟨S20x54, .f32⟩
  | .hbm, ⟨2, _⟩ => ⟨S4096x2560, .bf16⟩
  | .hbm, ⟨3, _⟩ => ⟨S2560x6912, .fp8e4m3⟩
  | .hbm, ⟨4, _⟩ => ⟨S2560x6912, .fp8e4m3⟩
  | .hbm, ⟨5, _⟩ => ⟨S4096x6912, .fp8e4m3⟩
  | .hbm, ⟨6, _⟩ => ⟨S54x2x2048, .f32⟩
  | .hbm, ⟨7, _⟩ => ⟨S2x6912x2048, .fp8e4m3⟩
  | .hbm, ⟨8, _⟩ => ⟨S2x16x6912, .f32⟩
  | .hbm, ⟨9, _⟩ => ⟨S4096x6912, .bf16⟩
  | .local _ .vmem, ⟨0, _⟩ => ⟨S4096x2560, .bf16⟩
  | .local _ .vmem, ⟨1, _⟩ => ⟨S2560x256, .fp8e4m3⟩
  | .local _ .vmem, ⟨2, _⟩ => ⟨S2560x256, .fp8e4m3⟩
  | .local _ .vmem, ⟨3, _⟩ => ⟨S2560x256, .fp8e4m3⟩
  | .local _ .vmem, ⟨4, _⟩ => ⟨S2560x256, .fp8e4m3⟩
  | .local _ .vmem, ⟨5, _⟩ => ⟨S4096x256, .fp8e4m3⟩
  | .local _ .vmem, ⟨6, _⟩ => ⟨S4096x256, .fp8e4m3⟩
  | .local _ .vmem, ⟨7, _⟩ => ⟨S2x2x2048, .f32⟩
  | .local _ .vmem, ⟨8, _⟩ => ⟨S2x2x2048, .f32⟩
  | .local _ .vmem, ⟨9, _⟩ => ⟨S2x256x2048, .fp8e4m3⟩
  | .local _ .vmem, ⟨10, _⟩ => ⟨S2x256x2048, .fp8e4m3⟩
  | .local _ .vmem, ⟨11, _⟩ => ⟨S2x16x256, .f32⟩
  | .local _ .vmem, ⟨12, _⟩ => ⟨S2x16x256, .f32⟩
  | .local _ .vmem, ⟨13, _⟩ => ⟨S4096x256, .bf16⟩
  | .local _ .vmem, ⟨14, _⟩ => ⟨S4096x256, .bf16⟩
  | .local _ .vmem, ⟨15, _⟩ => ⟨S2560x256, .bf16⟩
  | .local _ .vmem, ⟨16, _⟩ => ⟨S2560x256, .bf16⟩
  | .local _ .smem, ⟨0, _⟩ => ⟨S20x54, .f32⟩
  | .local _ .smem, ⟨1, _⟩ => ⟨S20x54, .f32⟩
  | _, _ => ⟨S20x54, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![27], ![false]⟩

def k0_off1 (i : grid0.Coords) (c0_i32 : BitVec 32) : Fin 2 → Nat :=
  let c0 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let arg0 : BitVec 32 := BitVec.ofNat 32 (i 0).val
  let c2_i32 : BitVec 32 := 2#32
  let v0 : BitVec 32 := Scalar.muli arg0 c2_i32
  let v25 : BitVec 32 := Scalar.addi v0 c0_i32_8
  let v26 : Index := Scalar.indexCast v25
  ![1, v26.toNat]
def k0_off3 (i : grid0.Coords) (c0_i32_19 : BitVec 32) : Fin 2 → Nat :=
  let c2 : Index := 2#32
  let arg0 : BitVec 32 := BitVec.ofNat 32 (i 0).val
  let c2_i32 : BitVec 32 := 2#32
  let v0 : BitVec 32 := Scalar.muli arg0 c2_i32
  let v49 : BitVec 32 := Scalar.addi v0 c0_i32_19
  let v50 : Index := Scalar.indexCast v49
  ![2, v50.toNat]
def k0_off4 (i : grid0.Coords) (c0_i32_29 : BitVec 32) : Fin 2 → Nat :=
  let c3 : Index := 3#32
  let arg0 : BitVec 32 := BitVec.ofNat 32 (i 0).val
  let c2_i32 : BitVec 32 := 2#32
  let v0 : BitVec 32 := Scalar.muli arg0 c2_i32
  let v73 : BitVec 32 := Scalar.addi v0 c0_i32_29
  let v74 : Index := Scalar.indexCast v73
  ![3, v74.toNat]
def k0_off5 (i : grid0.Coords) (c0_i32_39 : BitVec 32) : Fin 2 → Nat :=
  let c4 : Index := 4#32
  let arg0 : BitVec 32 := BitVec.ofNat 32 (i 0).val
  let c2_i32 : BitVec 32 := 2#32
  let v0 : BitVec 32 := Scalar.muli arg0 c2_i32
  let v97 : BitVec 32 := Scalar.addi v0 c0_i32_39
  let v98 : Index := Scalar.indexCast v97
  ![4, v98.toNat]
def k0_off6 (i : grid0.Coords) (c0_i32_49 : BitVec 32) : Fin 2 → Nat :=
  let c5 : Index := 5#32
  let arg0 : BitVec 32 := BitVec.ofNat 32 (i 0).val
  let c2_i32 : BitVec 32 := 2#32
  let v0 : BitVec 32 := Scalar.muli arg0 c2_i32
  let v121 : BitVec 32 := Scalar.addi v0 c0_i32_49
  let v122 : Index := Scalar.indexCast v121
  ![5, v122.toNat]
def k0_off7 (i : grid0.Coords) (c0_i32_59 : BitVec 32) : Fin 2 → Nat :=
  let c6 : Index := 6#32
  let arg0 : BitVec 32 := BitVec.ofNat 32 (i 0).val
  let c2_i32 : BitVec 32 := 2#32
  let v0 : BitVec 32 := Scalar.muli arg0 c2_i32
  let v145 : BitVec 32 := Scalar.addi v0 c0_i32_59
  let v146 : Index := Scalar.indexCast v145
  ![6, v146.toNat]
def k0_off8 (i : grid0.Coords) (c0_i32_69 : BitVec 32) : Fin 2 → Nat :=
  let c7 : Index := 7#32
  let arg0 : BitVec 32 := BitVec.ofNat 32 (i 0).val
  let c2_i32 : BitVec 32 := 2#32
  let v0 : BitVec 32 := Scalar.muli arg0 c2_i32
  let v169 : BitVec 32 := Scalar.addi v0 c0_i32_69
  let v170 : Index := Scalar.indexCast v169
  ![7, v170.toNat]
def k0_off9 (i : grid0.Coords) (c0_i32_79 : BitVec 32) : Fin 2 → Nat :=
  let c8 : Index := 8#32
  let arg0 : BitVec 32 := BitVec.ofNat 32 (i 0).val
  let c2_i32 : BitVec 32 := 2#32
  let v0 : BitVec 32 := Scalar.muli arg0 c2_i32
  let v193 : BitVec 32 := Scalar.addi v0 c0_i32_79
  let v194 : Index := Scalar.indexCast v193
  ![8, v194.toNat]
def k0_off10 (i : grid0.Coords) (c0_i32_89 : BitVec 32) : Fin 2 → Nat :=
  let c9 : Index := 9#32
  let arg0 : BitVec 32 := BitVec.ofNat 32 (i 0).val
  let c2_i32 : BitVec 32 := 2#32
  let v0 : BitVec 32 := Scalar.muli arg0 c2_i32
  let v217 : BitVec 32 := Scalar.addi v0 c0_i32_89
  let v218 : Index := Scalar.indexCast v217
  ![9, v218.toNat]
def k0_off11 (i : grid0.Coords) (c0_i32_99 : BitVec 32) : Fin 2 → Nat :=
  let c10 : Index := 10#32
  let arg0 : BitVec 32 := BitVec.ofNat 32 (i 0).val
  let c2_i32 : BitVec 32 := 2#32
  let v0 : BitVec 32 := Scalar.muli arg0 c2_i32
  let v241 : BitVec 32 := Scalar.addi v0 c0_i32_99
  let v242 : Index := Scalar.indexCast v241
  ![10, v242.toNat]
def k0_off12 (i : grid0.Coords) (c0_i32_109 : BitVec 32) : Fin 2 → Nat :=
  let c11 : Index := 11#32
  let arg0 : BitVec 32 := BitVec.ofNat 32 (i 0).val
  let c2_i32 : BitVec 32 := 2#32
  let v0 : BitVec 32 := Scalar.muli arg0 c2_i32
  let v265 : BitVec 32 := Scalar.addi v0 c0_i32_109
  let v266 : Index := Scalar.indexCast v265
  ![11, v266.toNat]
def k0_off13 (i : grid0.Coords) (c0_i32_119 : BitVec 32) : Fin 2 → Nat :=
  let c12 : Index := 12#32
  let arg0 : BitVec 32 := BitVec.ofNat 32 (i 0).val
  let c2_i32 : BitVec 32 := 2#32
  let v0 : BitVec 32 := Scalar.muli arg0 c2_i32
  let v289 : BitVec 32 := Scalar.addi v0 c0_i32_119
  let v290 : Index := Scalar.indexCast v289
  ![12, v290.toNat]
def k0_off14 (i : grid0.Coords) (c0_i32_129 : BitVec 32) : Fin 2 → Nat :=
  let c13 : Index := 13#32
  let arg0 : BitVec 32 := BitVec.ofNat 32 (i 0).val
  let c2_i32 : BitVec 32 := 2#32
  let v0 : BitVec 32 := Scalar.muli arg0 c2_i32
  let v313 : BitVec 32 := Scalar.addi v0 c0_i32_129
  let v314 : Index := Scalar.indexCast v313
  ![13, v314.toNat]
def k0_off15 (i : grid0.Coords) (c0_i32_139 : BitVec 32) : Fin 2 → Nat :=
  let c14 : Index := 14#32
  let arg0 : BitVec 32 := BitVec.ofNat 32 (i 0).val
  let c2_i32 : BitVec 32 := 2#32
  let v0 : BitVec 32 := Scalar.muli arg0 c2_i32
  let v337 : BitVec 32 := Scalar.addi v0 c0_i32_139
  let v338 : Index := Scalar.indexCast v337
  ![14, v338.toNat]
def k0_off16 (i : grid0.Coords) (c0_i32_149 : BitVec 32) : Fin 2 → Nat :=
  let c15 : Index := 15#32
  let arg0 : BitVec 32 := BitVec.ofNat 32 (i 0).val
  let c2_i32 : BitVec 32 := 2#32
  let v0 : BitVec 32 := Scalar.muli arg0 c2_i32
  let v361 : BitVec 32 := Scalar.addi v0 c0_i32_149
  let v362 : Index := Scalar.indexCast v361
  ![15, v362.toNat]
def k0_off17 (i : grid0.Coords) (c0_i32_159 : BitVec 32) : Fin 2 → Nat :=
  let c16 : Index := 16#32
  let arg0 : BitVec 32 := BitVec.ofNat 32 (i 0).val
  let c2_i32 : BitVec 32 := 2#32
  let v0 : BitVec 32 := Scalar.muli arg0 c2_i32
  let v385 : BitVec 32 := Scalar.addi v0 c0_i32_159
  let v386 : Index := Scalar.indexCast v385
  ![16, v386.toNat]
def k0_off18 (i : grid0.Coords) (c0_i32_169 : BitVec 32) : Fin 2 → Nat :=
  let c17 : Index := 17#32
  let arg0 : BitVec 32 := BitVec.ofNat 32 (i 0).val
  let c2_i32 : BitVec 32 := 2#32
  let v0 : BitVec 32 := Scalar.muli arg0 c2_i32
  let v409 : BitVec 32 := Scalar.addi v0 c0_i32_169
  let v410 : Index := Scalar.indexCast v409
  ![17, v410.toNat]
def k0_off19 (i : grid0.Coords) (c0_i32_179 : BitVec 32) : Fin 2 → Nat :=
  let c18 : Index := 18#32
  let arg0 : BitVec 32 := BitVec.ofNat 32 (i 0).val
  let c2_i32 : BitVec 32 := 2#32
  let v0 : BitVec 32 := Scalar.muli arg0 c2_i32
  let v433 : BitVec 32 := Scalar.addi v0 c0_i32_179
  let v434 : Index := Scalar.indexCast v433
  ![18, v434.toNat]
def k0_off20 (i : grid0.Coords) (c0_i32_189 : BitVec 32) : Fin 2 → Nat :=
  let c19 : Index := 19#32
  let arg0 : BitVec 32 := BitVec.ofNat 32 (i 0).val
  let c2_i32 : BitVec 32 := 2#32
  let v0 : BitVec 32 := Scalar.muli arg0 c2_i32
  let v457 : BitVec 32 := Scalar.addi v0 c0_i32_189
  let v458 : Index := Scalar.indexCast v457
  ![19, v458.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S20x54 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S20x54 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2560x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S20x54 : Shape := ⟨2, ![20, 54]⟩
abbrev S4096x2560 : Shape := ⟨2, ![4096, 2560]⟩
abbrev S2560x6912 : Shape := ⟨2, ![2560, 6912]⟩
abbrev S4096x6912 : Shape := ⟨2, ![4096, 6912]⟩
abbrev S54x2x2048 : Shape := ⟨3, ![54, 2, 2048]⟩
abbrev S2x6912x2048 : Shape := ⟨3, ![2, 6912, 2048]⟩
abbrev S2x16x6912 : Shape := ⟨3, ![2, 16, 6912]⟩
abbrev S20x128x54x128 : Shape := ⟨4, ![20, 128, 54, 128]⟩
abbrev S20x1x54x1 : Shape := ⟨4, ![20, 1, 54, 1]⟩
abbrev S4096x54x128 : Shape := ⟨3, ![4096, 54, 128]⟩
abbrev S4096x54 : Shape := ⟨2, ![4096, 54]⟩
abbrev S253x4096x54 : Shape := ⟨3, ![253, 4096, 54]⟩
abbrev S1x4096x54 : Shape := ⟨3, ![1, 4096, 54]⟩
abbrev S4096x54x1 : Shape := ⟨3, ![4096, 54, 1]⟩
abbrev S54x4096 : Shape := ⟨2, ![54, 4096]⟩
abbrev S32x128x6912 : Shape := ⟨3, ![32, 128, 6912]⟩
abbrev S32x6912 : Shape := ⟨2, ![32, 6912]⟩
abbrev S253x32x6912 : Shape := ⟨3, ![253, 32, 6912]⟩
abbrev S1x32x6912 : Shape := ⟨3, ![1, 32, 6912]⟩
abbrev S32x1x6912 : Shape := ⟨3, ![32, 1, 6912]⟩
abbrev S2x2048x6912 : Shape := ⟨3, ![2, 2048, 6912]⟩

abbrev nBuf : Space → Nat
  | .hbm => 10
  | .vmem => 10
  | .smem => 0
  | _ => 0

abbrev bufTy : (tb : Table) → Fin (tcTables nBuf tb) → BufTy
  | .hbm, ⟨0, _⟩ => ⟨S20x54, .f32⟩
  | .hbm, ⟨1, _⟩ => ⟨S20x54, .f32⟩
  | .hbm, ⟨2, _⟩ => ⟨S4096x2560, .bf16⟩
  | .hbm, ⟨3, _⟩ => ⟨S2560x6912, .fp8e4m3⟩
  | .hbm, ⟨4, _⟩ => ⟨S2560x6912, .fp8e4m3⟩
  | .hbm, ⟨5, _⟩ => ⟨S4096x6912, .fp8e4m3⟩
  | .hbm, ⟨6, _⟩ => ⟨S54x2x2048, .f32⟩
  | .hbm, ⟨7, _⟩ => ⟨S2x6912x2048, .fp8e4m3⟩
  | .hbm, ⟨8, _⟩ => ⟨S2x16x6912, .f32⟩
  | .hbm, ⟨9, _⟩ => ⟨S4096x6912, .bf16⟩
  | .local _ .vmem, ⟨0, _⟩ => ⟨S20x54, .f32⟩
  | .local _ .vmem, ⟨1, _⟩ => ⟨S20x54, .f32⟩
  | .local _ .vmem, ⟨2, _⟩ => ⟨S4096x2560, .bf16⟩
  | .local _ .vmem, ⟨3, _⟩ => ⟨S2560x6912, .fp8e4m3⟩
  | .local _ .vmem, ⟨4, _⟩ => ⟨S2560x6912, .fp8e4m3⟩
  | .local _ .vmem, ⟨5, _⟩ => ⟨S4096x6912, .fp8e4m3⟩
  | .local _ .vmem, ⟨6, _⟩ => ⟨S54x2x2048, .f32⟩
  | .local _ .vmem, ⟨7, _⟩ => ⟨S2x6912x2048, .fp8e4m3⟩
  | .local _ .vmem, ⟨8, _⟩ => ⟨S2x16x6912, .f32⟩
  | .local _ .vmem, ⟨9, _⟩ => ⟨S4096x6912, .bf16⟩
  | _, _ => ⟨S20x54, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S20x54 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x54 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x6912 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x6912 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x6912 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S54x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x6912x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x16x6912 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x6912 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Pow2.lean ====
/-
  The power-of-two scale, as extended reals.

  The kernel finds the least power of two above `v` by a search over the exponent in seven halving steps; the reference
  takes the least entry above `v` of the table `2^-125 … 2^127`. Both give 1 where `v` is below `2^-126` and `2^127` where
  no entry is above `v`. This module states the two functions and proves them equal at every extended real.
-/
module

public import Idealize.ShloMosaic.Lib.Pointwise

@[expose] public section

noncomputable section

namespace Cert.Up

/-- The real power `2 ^ e`, as an extended real. -/
def tw (e : ℤ) : EReal := (((2 : ℝ) ^ e : ℝ) : EReal)

/-- Powers of two are ordered as their exponents. -/
theorem tw_le {a b : ℤ} : tw a ≤ tw b ↔ a ≤ b := by
  unfold tw
  rw [EReal.coe_le_coe_iff]
  exact zpow_le_zpow_iff_right₀ (by norm_num)

/-- Powers of two are strictly ordered as their exponents. -/
theorem tw_lt {a b : ℤ} : tw a < tw b ↔ a < b := by
  unfold tw
  rw [EReal.coe_lt_coe_iff]
  exact zpow_lt_zpow_iff_right₀ (by norm_num)

/-- Powers of two multiply by adding exponents. -/
theorem tw_mul (a b : ℤ) : tw a * tw b = tw (a + b) := by
  unfold tw
  rw [← EReal.coe_mul, zpow_add₀ (by norm_num)]

/-- One step of the search: `p` moves up by the factor `2 ^ s` if the product is still at most `v`. -/
def step (v : EReal) (s : ℤ) (p : EReal) : EReal := if p * tw s ≤ v then p * tw s else p

/-- The search's start: `2^-1` or `2^-126`. -/
def start (v : EReal) : EReal := if tw (-1) ≤ v then tw (-1) else tw (-126)

/-- The seven steps. -/
def search (v : EReal) : EReal :=
  step v 1 (step v 2 (step v 4 (step v 8 (step v 16 (step v 32 (step v 64 (start v)))))))

/-- The kernel's scale of `v`. -/
def pow2K (v : EReal) : EReal := if v < tw (-126) then 1 else search v * tw 1

/-- The reference's scale of `v`: the least table entry above `v`. -/
def pow2R (v : EReal) : EReal :=
  if v < tw (-126) then 1
  else (Finset.univ : Finset (Fin 253)).fold min ⊤
    (fun k => if v < tw ((k.val : ℤ) - 125) then tw ((k.val : ℤ) - 125) else tw 127)

/-- A step halves the bracket `2^e ≤ v < 2^(e + 2 s)` of `v`. -/
theorem step_spec (v : EReal) (s e : ℤ) (hl : tw e ≤ v) (hu : v < tw (e + 2 * s)) :
    ∃ e', step v s (tw e) = tw e' ∧ e ≤ e' + 0 * s ∧ tw e' ≤ v ∧ v < tw (e' + s) := by
  unfold step
  rw [tw_mul]
  by_cases h : tw (e + s) ≤ v
  · rw [if_pos h]
    have hes : e + s < e + 2 * s := tw_lt.1 (lt_of_le_of_lt h hu)
    refine ⟨e + s, rfl, by omega, h, ?_⟩
    have : e + s + s = e + 2 * s := by ring
    rwa [this]
  · rw [if_neg h]
    exact ⟨e, rfl, by omega, hl, not_le.1 h⟩

/-- From a bracket of 128 exponents the steps end at the exponent of `v`. -/
theorem steps_spec (v : EReal) (e : ℤ) (hl : tw e ≤ v) (hu : v < tw (e + 128)) :
    ∃ e', step v 1 (step v 2 (step v 4 (step v 8 (step v 16 (step v 32 (step v 64 (tw e)))))))  = tw e'
      ∧ e ≤ e' ∧ tw e' ≤ v ∧ v < tw (e' + 1) := by
  obtain ⟨e1, h1, g1, l1, u1⟩ := step_spec v 64 e hl hu
  obtain ⟨e2, h2, g2, l2, u2⟩ := step_spec v 32 e1 l1 u1
  obtain ⟨e3, h3, g3, l3, u3⟩ := step_spec v 16 e2 l2 u2
  obtain ⟨e4, h4, g4, l4, u4⟩ := step_spec v 8 e3 l3 u3
  obtain ⟨e5, h5, g5, l5, u5⟩ := step_spec v 4 e4 l4 u4
  obtain ⟨e6, h6, g6, l6, u6⟩ := step_spec v 2 e5 l5 u5
  obtain ⟨e7, h7, g7, l7, u7⟩ := step_spec v 1 e6 l6 u6
  refine ⟨e7, ?_, by omega, l7, u7⟩
  rw [h1, h2, h3, h4, h5, h6, h7]

/-- A step taken. -/
theorem step_take (v : EReal) (s e : ℤ) (h : tw (e + s) ≤ v) : step v s (tw e) = tw (e + s) := by
  unfold step
  rw [tw_mul, if_pos h]

/-- At `2^127` and above the search runs to its end, `2^126`. -/
theorem search_top (v : EReal) (h : tw 127 ≤ v) : search v = tw 126 := by
  have le : ∀ e : ℤ, e ≤ 127 → tw e ≤ v := fun e he => le_trans (tw_le.2 he) h
  unfold search start
  rw [if_pos (le _ (by norm_num)), step_take v 64 _ (le _ (by norm_num)), step_take v 32 _ (le _ (by norm_num)),
    step_take v 16 _ (le _ (by norm_num)), step_take v 8 _ (le _ (by norm_num)), step_take v 4 _ (le _ (by norm_num)),
    step_take v 2 _ (le _ (by norm_num)), step_take v 1 _ (le _ (by norm_num))]
  rfl

/-- Between `2^-126` and `2^127` the search ends at the exponent of `v`. -/
theorem search_mid (v : EReal) (hl : tw (-126) ≤ v) (hu : v < tw 127) :
    ∃ e, search v = tw e ∧ -126 ≤ e ∧ tw e ≤ v ∧ v < tw (e + 1) := by
  unfold search start
  by_cases h : tw (-1) ≤ v
  · rw [if_pos h]
    obtain ⟨e, h1, h2, h3, h4⟩ := steps_spec v (-1) h hu
    exact ⟨e, h1, by omega, h3, h4⟩
  · rw [if_neg h]
    obtain ⟨e, h1, h2, h3, h4⟩ := steps_spec v (-126) hl (lt_trans (not_le.1 h) (tw_lt.2 (by norm_num)))
    exact ⟨e, h1, h2, h3, h4⟩

/-- The search and the table give the same scale. -/
theorem pow2K_eq_pow2R (v : EReal) : pow2K v = pow2R v := by
  unfold pow2K pow2R
  by_cases h0 : v < tw (-126)
  · rw [if_pos h0, if_pos h0]
  rw [if_neg h0, if_neg h0]
  by_cases h1 : tw 127 ≤ v
  · rw [search_top v h1, tw_mul]
    have hk : ∀ k : Fin 253, ¬ v < tw ((k.val : ℤ) - 125) := fun k =>
      not_lt.2 (le_trans (tw_le.2 (by have := k.isLt; omega)) h1)
    apply le_antisymm
    · rw [Finset.le_fold_min]
      exact ⟨le_top, fun k _ => by rw [if_neg (hk k)]; exact le_of_eq rfl⟩
    · rw [Finset.fold_min_le]
      exact Or.inr ⟨0, Finset.mem_univ _, by rw [if_neg (hk 0)]; exact le_of_eq rfl⟩
  · obtain ⟨e, h2, h3, h4, h5⟩ := search_mid v (not_lt.1 h0) (not_le.1 h1)
    have h6 : e < 127 := tw_lt.1 (lt_of_le_of_lt h4 (not_le.1 h1))
    rw [h2, tw_mul]
    apply le_antisymm
    · rw [Finset.le_fold_min]
      refine ⟨le_top, fun k _ => ?_⟩
      split_ifs with hk
      · have := tw_lt.1 (lt_of_le_of_lt h4 hk)
        exact tw_le.2 (by omega)
      · exact tw_le.2 (by omega)
    · rw [Finset.fold_min_le]
      refine Or.inr ⟨⟨(e + 126).toNat, by omega⟩, Finset.mem_univ _, ?_⟩
      have hc : (((e + 126).toNat : ℕ) : ℤ) - 125 = e + 1 := by omega
      simp only [hc]
      rw [if_pos h5]

/-! ## The constants the two programs print -/

open Idealize.ShloMosaic

/-- An f32 pattern with a clear sign bit, a clear fraction and the exponent field `E` of a normal number is `2^(E - 127)`. -/
theorem ofBits_tw (b : BitVec 32) (E : ℕ) (hs : b.extractLsb' 31 1 = 0#1) (he : (b.extractLsb' 23 8).toNat = E)
    (hf : (b.extractLsb' 0 23).toNat = 0) (h0 : E ≠ 0) (h1 : E ≠ 255) : Ideal.ofBits .f32 b = tw ((E : ℤ) - 127) := by
  show Ideal.ieee 8 23 b = _
  unfold Ideal.ieee tw
  dsimp only
  rw [hs, he, hf, if_neg (by norm_num; exact h1), if_neg h0]
  congr 1
  have h2 : ((2 ^ 23 + 0 : ℕ) : ℝ) = (2 : ℝ) ^ (23 : ℤ) := by norm_num
  rw [h2, if_neg (by decide), one_mul, ← zpow_add₀ (by norm_num)]
  congr 1
  ring

/-- The constant `2 ^ -126`. -/
theorem bits_tw_neg126 : Ideal.ofBits .f32 0x00800000#32 = tw (-126) := ofBits_tw _ 1 (by decide) (by decide) (by decide) (by decide) (by decide)
/-- The constant `2 ^ -1`. -/
theorem bits_tw_neg1 : Ideal.ofBits .f32 0x3F000000#32 = tw (-1) := ofBits_tw _ 126 (by decide) (by decide) (by decide) (by decide) (by decide)
/-- The constant `2 ^ 1`. -/
theorem bits_tw_1 : Ideal.ofBits .f32 0x40000000#32 = tw 1 := ofBits_tw _ 128 (by decide) (by decide) (by decide) (by decide) (by decide)
/-- The constant `2 ^ 2`. -/
theorem bits_tw_2 : Ideal.ofBits .f32 0x40800000#32 = tw 2 := ofBits_tw _ 129 (by decide) (by decide) (by decide) (by decide) (by decide)
/-- The constant `2 ^ 4`. -/
theorem bits_tw_4 : Ideal.ofBits .f32 0x41800000#32 = tw 4 := ofBits_tw _ 131 (by decide) (by decide) (by decide) (by decide) (by decide)
/-- The constant `2 ^ 8`. -/
theorem bits_tw_8 : Ideal.ofBits .f32 0x43800000#32 = tw 8 := ofBits_tw _ 135 (by decide) (by decide) (by decide) (by decide) (by decide)
/-- The constant `2 ^ 16`. -/
theorem bits_tw_16 : Ideal.ofBits .f32 0x47800000#32 = tw 16 := ofBits_tw _ 143 (by decide) (by decide) (by decide) (by decide) (by decide)
/-- The constant `2 ^ 32`. -/
theorem bits_tw_32 : Ideal.ofBits .f32 0x4F800000#32 = tw 32 := ofBits_tw _ 159 (by decide) (by decide) (by decide) (by decide) (by decide)
/-- The constant `2 ^ 64`. -/
theorem bits_tw_64 : Ideal.ofBits .f32 0x5F800000#32 = tw 64 := ofBits_tw _ 191 (by decide) (by decide) (by decide) (by decide) (by decide)
/-- The constant `2 ^ 127`. -/
theorem bits_tw_127 : Ideal.ofBits .f32 0x7F000000#32 = tw 127 := ofBits_tw _ 254 (by decide) (by decide) (by decide) (by decide) (by decide)
/-- The constant one. -/
theorem bits_one : Ideal.ofBits .f32 0x3F800000#32 = 1 :=
  (ofBits_tw _ 127 (by decide) (by decide) (by decide) (by decide) (by decide)).trans (by unfold tw; norm_num)
/-- The constant plus infinity. -/
theorem bits_top : Ideal.ofBits .f32 0x7F800000#32 = ⊤ := by
  show Ideal.ieee 8 23 (0x7F800000#32 : BitVec 32) = (⊤ : EReal)
  unfold Ideal.ieee
  dsimp only
  rw [if_pos (by decide), if_pos (by decide), if_neg (by decide)]

/-- The constant minus infinity. -/
theorem bits_bot : Ideal.ofBits .f32 0xFF800000#32 = ⊥ := by
  show Ideal.ieee 8 23 (0xFF800000#32 : BitVec 32) = (⊥ : EReal)
  unfold Ideal.ieee
  dsimp only
  rw [if_pos (by decide), if_pos (by decide), if_pos (by decide)]

/-- The table's entry: `exp2` of the f32 reading of the word `k - 125` is `2^(k - 125)`. -/
theorem exp2_entry (k : Fin 253) :
    Ideal.exp2 ((((BitVec.ofNat 32 k.val - 125#32).toInt : ℝ)) : EReal) = tw ((k.val : ℤ) - 125) := by
  have h : (BitVec.ofNat 32 k.val - 125#32).toInt = (k.val : ℤ) - 125 := by
    revert k; decide
  rw [h]
  unfold tw
  show ((Real.rpow 2 _ : ℝ) : EReal) = _
  congr 1
  exact Real.rpow_intCast 2 _

end Cert.Up

end
-- ==== Proof.Spec.lean ====
/-
  The mathematics, over the extended reals: the scale of a group of 128 values, their codes, and the widened codes.
-/
module

public import proofs.«01_k».proof.Proof.Pow2

@[expose] public section

noncomputable section

namespace Cert.Up

open Idealize.ShloMosaic

/-- The scale of a group of 128 values: the power of two above the largest magnitude over 448. -/
def scaleOf (f : Fin 128 → EReal) : EReal :=
  pow2R ((Finset.univ.fold max ⊥ fun k => max (f k) (-(f k))) * Ideal.ofBits .f32 0x3B124925#32)

/-- The code of value `k` of a group: the value over the scale, clipped to ±448. -/
def codeOf (f : Fin 128 → EReal) (k : Fin 128) : EReal :=
  min (Ideal.ofBits .f32 0x43E00000#32) (max (Ideal.ofBits .f32 0xC3E00000#32) (f k * Ideal.div 1 (scaleOf f)))

/-- The code of value `k` times the scale of its group. -/
def wideOf (f : Fin 128 → EReal) (k : Fin 128) : EReal :=
  codeOf f k * scaleOf f

/-! ## Groups of a matrix -/

section Groups

variable {M N : Nat}

/-- 128 neighbouring entries of row `r`: column block `q`. -/
def rowGroup (H : Fin M → Fin N → EReal) (r : Fin M) (q : Nat) (h : 128 * q + 128 ≤ N) (k : Fin 128) : EReal :=
  H r ⟨128 * q + k.val, by omega⟩

/-- 128 neighbouring entries of column `n`: row block `u`. -/
def colGroup (H : Fin M → Fin N → EReal) (u : Nat) (h : 128 * u + 128 ≤ M) (n : Fin N) (k : Fin 128) : EReal :=
  H ⟨128 * u + k.val, by omega⟩ n

/-- The code of entry `(r, n)` in its row group. -/
def codeAt (hN : 128 ∣ N) (H : Fin M → Fin N → EReal) (r : Fin M) (n : Fin N) : EReal :=
  codeOf (rowGroup H r (n.val / 128) (by omega)) ⟨n.val % 128, by omega⟩

/-- That code times the scale of its group. -/
def wideAt (hN : 128 ∣ N) (H : Fin M → Fin N → EReal) (r : Fin M) (n : Fin N) : EReal :=
  wideOf (rowGroup H r (n.val / 128) (by omega)) ⟨n.val % 128, by omega⟩

/-- The scale of column block `q` of token `s` of sequence `b`. -/
def scaleRowAt (H : Fin 4096 → Fin N → EReal) (q : Nat) (h : 128 * q + 128 ≤ N) (b : Fin 2) (s : Fin 2048) : EReal :=
  scaleOf (rowGroup H ⟨2048 * b.val + s.val, by omega⟩ q h)

/-- The code of entry `(s, n)` of sequence `b` in its column group. -/
def codeColAt (H : Fin 4096 → Fin N → EReal) (b : Fin 2) (n : Fin N) (s : Fin 2048) : EReal :=
  codeOf (colGroup H (16 * b.val + s.val / 128) (by omega) n) ⟨s.val % 128, by omega⟩

/-- The scale of column `n` in token block `u` of sequence `b`. -/
def scaleColAt (H : Fin 4096 → Fin N → EReal) (b : Fin 2) (u : Fin 16) (n : Fin N) : EReal :=
  scaleOf (colGroup H (16 * b.val + u.val) (by omega) n)

end Groups

/-! ## Equal groups have equal scales and codes -/

/-- A code depends on the group's entries and the place in it only. -/
theorem codeOf_congr {f g : Fin 128 → EReal} {k l : Fin 128} (h : ∀ a, f a = g a) (e : k.val = l.val) : codeOf f k = codeOf g l := by
  rw [funext h, Fin.ext e]

/-- So does a widened code. -/
theorem wideOf_congr {f g : Fin 128 → EReal} {k l : Fin 128} (h : ∀ a, f a = g a) (e : k.val = l.val) : wideOf f k = wideOf g l := by
  rw [funext h, Fin.ext e]

/-- A scale depends on the group's entries only. -/
theorem scaleOf_congr {f g : Fin 128 → EReal} (h : ∀ a, f a = g a) : scaleOf f = scaleOf g := by
  rw [funext h]

/-- An entry depends on the numbers of its row and column only. -/
theorem at_congr {M N : Nat} (H : Fin M → Fin N → EReal) {r r' : Fin M} {n n' : Fin N} (hr : r.val = r'.val) (hn : n.val = n'.val) : H r n = H r' n' := by
  rw [Fin.ext hr, Fin.ext hn]

/-! ## The gated rows -/

/-- The gated unit of two products. -/
def gate (g p : EReal) : EReal := g * Ideal.logistic g * p

/-- A weight matrix of codes, each times the scale of its 128 × 128 block. -/
def wide (x : Fin 20 → Fin 54 → EReal) (w : Fin 2560 → Fin 6912 → EReal) (k : Fin 2560) (n : Fin 6912) : EReal :=
  w k n * x ⟨k.val / 128, by omega⟩ ⟨n.val / 128, by omega⟩

/-- The gated rows: the activation times the two widened weight matrices, through the gated unit. -/
def hid (x0 x1 : Fin 20 → Fin 54 → EReal) (x2 : Fin 4096 → Fin 2560 → EReal) (x3 x4 : Fin 2560 → Fin 6912 → EReal) (r : Fin 4096) (n : Fin 6912) : EReal :=
  gate (∑ k : Fin 2560, x2 r k * wide x0 x3 k n) (∑ k : Fin 2560, x2 r k * wide x1 x4 k n)

/-! ## A column block of a matrix

If `B` is columns `256 t … 256 t + 255` of `H`, its scales and codes are those of `H` in the same columns. -/

/-- Column `n` of column block `t`. -/
def colIn (t : Fin 27) (n : Fin 256) : Fin 6912 := ⟨256 * t.val + n.val, by omega⟩

/-- Scale column `q` of column block `t`. -/
def scaleColIn (t : Fin 27) (q : Fin 2) : Fin 54 := ⟨2 * t.val + q.val, by omega⟩

/-- Both groups of 128 columns lie in a block. -/
theorem scaleIn2 (q : Fin 2) : 128 * q.val + 128 ≤ 256 := by omega

/-- The group of scale column `q` of column block `t` lies in the array. -/
theorem scaleIn (t : Fin 27) (q : Fin 2) : 128 * (2 * t.val + q.val) + 128 ≤ 6912 := by omega

section Block

variable {B : Fin 4096 → Fin 256 → EReal} {H : Fin 4096 → Fin 6912 → EReal} (t : Fin 27)
  (hB : ∀ r (n : Fin 256), B r n = H r (colIn t n))

include hB

/-- Row codes of a column block. -/
theorem codeAt_block (r : Fin 4096) (n : Fin 256) : codeAt (by decide) B r n = codeAt (by decide) H r (colIn t n) :=
  codeOf_congr (fun k => (hB _ _).trans (at_congr H rfl (show 256 * t.val + (128 * (n.val / 128) + k.val) = 128 * ((256 * t.val + n.val) / 128) + k.val by omega)))
    (show n.val % 128 = (256 * t.val + n.val) % 128 by omega)

/-- Widened row codes of a column block. -/
theorem wideAt_block (r : Fin 4096) (n : Fin 256) : wideAt (by decide) B r n = wideAt (by decide) H r (colIn t n) :=
  wideOf_congr (fun k => (hB _ _).trans (at_congr H rfl (show 256 * t.val + (128 * (n.val / 128) + k.val) = 128 * ((256 * t.val + n.val) / 128) + k.val by omega)))
    (show n.val % 128 = (256 * t.val + n.val) % 128 by omega)

/-- Row scales of a column block. -/
theorem scaleRowAt_block (q : Fin 2) (b : Fin 2) (s : Fin 2048) :
    scaleRowAt B q.val (scaleIn2 q) b s = scaleRowAt H (2 * t.val + q.val) (scaleIn t q) b s :=
  scaleOf_congr fun k => (hB _ _).trans (at_congr H rfl (show 256 * t.val + (128 * q.val + k.val) = 128 * (2 * t.val + q.val) + k.val by omega))

/-- Column codes of a column block. -/
theorem codeColAt_block (b : Fin 2) (n : Fin 256) (s : Fin 2048) : codeColAt B b n s = codeColAt H b (colIn t n) s :=
  codeOf_congr (fun _ => hB _ _) rfl

/-- Column scales of a column block. -/
theorem scaleColAt_block (b : Fin 2) (u : Fin 16) (n : Fin 256) : scaleColAt B b u n = scaleColAt H b u (colIn t n) :=
  scaleOf_congr fun _ => hB _ _

end Block

end Cert.Up

end
-- ==== Proof.Model.lean ====
/-
  What one grid point of the kernel stores, written once for every block.

  A grid point covers 256 columns. It widens the two 2560 × 256 weight blocks tile by tile into scratch, then for each of the
  32 × 2 tiles of 128 × 128 outputs it stores codes, scales, transposed codes, transposed scales and widened codes. The
  functions here give each stored value as a function of the tile's number `j`, in the kernel's own operations and over any
  float type; `Runs.lean` says that the kernel's stores are these.
-/
module

public import proofs.«01_k».proof.Proof.Gen.KernelIdeal.Frame

@[expose] public section

noncomputable section

namespace Cert.Up

open Idealize.ShloMosaic Idealize.ShloMosaic.TcCoe
open Cert.KernelIdeal Cert.KernelIdeal.Gen

variable {F : FTy → Type} [FloatOps F]

/-- The list `f (n-1), …, f 0`: stores are listed last first. -/
def downFrom {α : Type} : (n : Nat) → (Fin n → α) → List α
  | 0, _ => []
  | n + 1, f => f (Fin.last n) :: downFrom n fun j => f j.castSucc

/-! ## Weights -/

/-- The offset of the scale of weight tile `j` (tile row `j / 2`, tile column `j % 2`) in the array of scales. -/
def scaleOff (i : grid0.Coords) (j : Fin 40) : Fin 2 → Nat :=
  ![j.val / 2, (Scalar.indexCast (Scalar.addi (Scalar.muli (BitVec.ofNat 32 (i 0).val) 2#32) (BitVec.ofNat 32 (j.val % 2)))).toNat]

/-- The place of weight tile `j`'s scale. -/
theorem scaleOff_eq : ∀ (i : grid0.Coords) (j : Fin 40), scaleOff i j = ![j.val / 2, 2 * (i 0).val + j.val % 2] := by decide +kernel

/-- It lies in the array of scales. -/
theorem scaleOff_inb (i : grid0.Coords) (j : Fin 40) (a : Fin 2) : scaleOff i j a + S1x1.size a ≤ S20x54.size a := by
  have hi : (i 0).val < 27 := (i 0).isLt
  have hj := j.isLt
  rw [scaleOff_eq]
  match a with
  | ⟨0, _⟩ => show j.val / 2 + 1 ≤ 20; omega
  | ⟨1, _⟩ => show 2 * (i 0).val + j.val % 2 + 1 ≤ 54; omega

/-- Weight tile `j` lies in the weight block. -/
theorem wtile_inb (j : Fin 40) (a : Fin 2) : (![128 * (j.val / 2), 128 * (j.val % 2)] : Fin 2 → Nat) a + S128x128.size a ≤ S2560x256.size a := by
  have hj := j.isLt
  match a with
  | ⟨0, _⟩ => show 128 * (j.val / 2) + 128 ≤ 2560; omega
  | ⟨1, _⟩ => show 128 * (j.val % 2) + 128 ≤ 256; omega

/-- The rectangle of weight tile `j`. -/
def wtile (j : Fin 40) : Rect S2560x256 := Rect.unit ![128 * (j.val / 2), 128 * (j.val % 2)] S128x128.size (wtile_inb j)

/-- The scale of weight tile `j`, read from the array of scales. -/
def scaleAt (i : grid0.Coords) (s : Memref sig .tc .smem S20x54 .f32) (hs : s.IsWhole) (x : Vec F S20x54 .f32) (j : Fin 40) : Elt F .f32 :=
  View.readAt (Elt F) s.view (Rect.unit (s := S20x54) (scaleOff i j) S1x1.size (scaleOff_inb i j)).toLoadRect (hs.unread x) (Shape.Idx.first (numel1_S1x1.symm ▸ Nat.one_pos))

/-- A widened weight tile: its codes times its scale. -/
def widen (s : Elt F .f32) (w : Vec F S128x128 .fp8e4m3) : FVec F S128x128 .bf16 :=
  shapeCast S128x128 (mulf (extf .bf16 w bitsLt_fp8e4m3_bf16) (broadcastTo S128x128 (truncf .bf16 (broadcast S1x128 s) bitsLt_bf16_f32) broadcasts_S1x128_S128x128)) shapeCasts_S128x128_S128x128

/-- The store of widened weight tile `j`. -/
def wpiece (i : grid0.Coords) (s : Memref sig .tc .smem S20x54 .f32) (hs : s.IsWhole) (x : Vec F S20x54 .f32)
    (w : Memref sig .tc .vmem S2560x256 .fp8e4m3) (hw : w.IsWhole) (y : Vec F S2560x256 .fp8e4m3) (j : Fin 40) : View.Piece (Elt F) S2560x256 .bf16 :=
  ⟨wtile j, widen (scaleAt i s hs x j) (View.readAt (Elt F) w.view (wtile j).toLoadRect (hw.unread y))⟩

/-! ## One tile of the result -/

/-- 256 rows of the activation times the widened weights, through the gated unit. -/
def gated (a : Vec F S256x2560 .bf16) (g p : Vec F S2560x256 .bf16) : FVec F S256x256 .f32 :=
  mulf (mulf (matmul dot_S256x2560_S2560x256_S256x256_1_0_0_1_n_n none a g (constant S256x256 .f32 0x00000000#32)) (logistic (matmul dot_S256x2560_S2560x256_S256x256_1_0_0_1_n_n none a g (constant S256x256 .f32 0x00000000#32)))) (matmul dot_S256x2560_S2560x256_S256x256_1_0_0_1_n_n none a p (constant S256x256 .f32 0x00000000#32))

/-- Output tile `j` is a quarter of its chunk of 256 rows. -/
theorem tile_slices (j : Fin 64) : S256x256.Slices ![128 * (j.val / 2 % 2), 128 * (j.val % 2)] S128x128 := by
  have h : ∀ k n : Fin 2, S256x256.Slices ![128 * k.val, 128 * n.val] S128x128 := by decide
  exact h ⟨j.val / 2 % 2, by omega⟩ ⟨j.val % 2, by omega⟩

/-- Tile `j` (token block `j / 2`, column block `j % 2`) of the 256 rows that hold it. -/
def tileOf (h : FVec F S256x256 .f32) (j : Fin 64) : FVec F S128x128 .f32 :=
  extractStridedSlice S128x128 ![128 * (j.val / 2 % 2), 128 * (j.val % 2)] h (tile_slices j)

/-- One step of the search for the power of two. -/
def stepV {s : Shape} (v : FVec F s .f32) (b : BitVec 32) (p : FVec F s .f32) : FVec F s .f32 :=
  select (cmpf .oge v (mulf p (broadcast s (Scalar.ofBits .f32 b)))) (mulf p (broadcast s (Scalar.ofBits .f32 b))) p

/-- The power of two of each entry of `v`. -/
def powV {s : Shape} (v : FVec F s .f32) : FVec F s .f32 :=
  select (cmpf .olt v (broadcast s (Scalar.ofBits .f32 0x00800000#32))) (broadcast s (Scalar.ofBits .f32 0x3F800000#32))
    (mulf (stepV v 0x40000000#32 (stepV v 0x40800000#32 (stepV v 0x41800000#32 (stepV v 0x43800000#32 (stepV v 0x47800000#32
      (stepV v 0x4F800000#32 (stepV v 0x5F800000#32
        (select (cmpf .oge v (broadcast s (Scalar.ofBits .f32 0x3F000000#32))) (broadcast s (Scalar.ofBits .f32 0x3F000000#32)) (broadcast s (Scalar.ofBits .f32 0x00800000#32))))))))))
      (broadcast s (Scalar.ofBits .f32 0x40000000#32)))

/-- The scale of each row of a tile. -/
def rowScale (h : FVec F S128x128 .f32) : FVec F S128x1 .f32 :=
  powV (mulf (shapeCast S128x1 (multiReduction .maximumf [1] S128 (absf h) 0xFF800000#32 reduces_S128x128_S128 (.inl rfl) rfl) shapeCasts_S128_S128x1) (broadcast S128x1 (Scalar.ofBits .f32 0x3B124925#32)))

/-- The scale of each column of a tile. -/
def colScale (h : FVec F S128x128 .f32) : FVec F S1x128 .f32 :=
  powV (mulf (shapeCast S1x128 (multiReduction .maximumf [0] S128 (absf h) 0xFF800000#32 reduces_S128x128_S128_2 (.inl rfl) rfl) shapeCasts_S128_S1x128) (broadcast S1x128 (Scalar.ofBits .f32 0x3B124925#32)))

/-- The column scales as stored. -/
def colScaleOut (h : FVec F S128x128 .f32) : FVec F S1x1x128 .f32 :=
  shapeCast S1x1x128 (colScale h) shapeCasts_S1x128_S1x1x128

/-- Scaled, clipped and rounded. -/
def codesOf (h r : FVec F S128x128 .f32) : FVec F S128x128 .fp8e4m3 :=
  truncf .fp8e4m3 (minimumf (broadcast S128x128 (Scalar.ofBits .f32 0x43E00000#32)) (maximumf (broadcast S128x128 (Scalar.ofBits .f32 0xC3E00000#32)) (mulf h r))) bitsLt_fp8e4m3_f32

/-- The codes of a tile, by rows. -/
def rowCodes (h : FVec F S128x128 .f32) : FVec F S128x128 .fp8e4m3 :=
  codesOf h (broadcastTo S128x128 (divf (broadcast S128x1 (Scalar.ofBits .f32 0x3F800000#32)) (rowScale h)) broadcasts_S128x1_S128x128)

/-- The codes of a tile, by rows, widened again. -/
def rowWide (h : FVec F S128x128 .f32) : FVec F S128x128 .bf16 :=
  mulf (extf .bf16 (rowCodes h) bitsLt_fp8e4m3_bf16) (broadcastTo S128x128 (truncf .bf16 (rowScale h) bitsLt_bf16_f32) broadcasts_S128x1_S128x128)

/-- The codes of a tile, by columns, transposed. -/
def colCodes (h : FVec F S128x128 .f32) : FVec F S1x128x128 .fp8e4m3 :=
  shapeCast S1x128x128 (truncf .fp8e4m3 (transpose S128x128 [1, 0] (extf .bf16 (codesOf h (broadcastTo S128x128 (divf (broadcast S1x128 (Scalar.ofBits .f32 0x3F800000#32)) (colScale h)) broadcasts_S1x128_S128x128)) bitsLt_fp8e4m3_bf16) transposes_S128x128_p1_0_S128x128) bitsLt_fp8e4m3_bf16) shapeCasts_S128x128_S1x128x128

/-- Lane `b` of the row-scale register takes the row scales of a tile. -/
def laneSet (b : BitVec 32) (h : FVec F S128x128 .f32) (r : FVec F S128x128 .f32) : FVec F S128x128 .f32 :=
  select (cmpi .eq (iota .tc S128x128 32 [1] iota_S128x128_d1_w32) (broadcast S128x128 b)) (broadcastTo S128x128 (shapeCast S128x1 (rowScale h) shapeCasts_S128x1_S128x1) broadcasts_S128x1_S128x128) r

/-- The transposed row scales have a row for each of the two tiles of a row group. -/
theorem lane_slices (j : Fin 64) : S128x128.Slices ![j.val % 2, 0] S1x128 := by
  have h : ∀ n : Fin 2, S128x128.Slices ![n.val, 0] S1x128 := by decide
  exact h ⟨j.val % 2, by omega⟩

/-- The row scales of tile `j`, from the register that holds those of its two neighbours `h0`, `h1`. -/
def rowScaleOut (h0 h1 : FVec F S128x128 .f32) (j : Fin 64) : FVec F S1x1x128 .f32 :=
  shapeCast S1x1x128 (extractStridedSlice S1x128 ![j.val % 2, 0] (transpose S128x128 [1, 0] (laneSet 1#32 h1 (laneSet 0#32 h0 (broadcast S128x128 (Scalar.ofBits .f32 0x00000000#32)))) transposes_S128x128_p1_0_S128x128) (lane_slices j)) shapeCasts_S1x128_S1x1x128

/-! ## The stores -/

/-- The chunk of output tile `j` lies in the activations. -/
theorem chunk_inb (j : Fin 64) (a : Fin 2) : (![256 * (j.val / 4), 0] : Fin 2 → Nat) a + S256x2560.size a ≤ S4096x2560.size a := by
  have hj := j.isLt
  match a with
  | ⟨0, _⟩ => show 256 * (j.val / 4) + 256 ≤ 4096; omega
  | ⟨1, _⟩ => show 0 + 2560 ≤ 2560; omega

/-- The 256 rows of the activation that tile `j` is computed from. -/
def chunk (j : Fin 64) : Rect S4096x2560 := Rect.unit ![256 * (j.val / 4), 0] S256x2560.size (chunk_inb j)

/-- Output tile `j` lies in the block of row codes. -/
theorem tile_inb (j : Fin 64) (a : Fin 2) : (![128 * (j.val / 2), 128 * (j.val % 2)] : Fin 2 → Nat) a + S128x128.size a ≤ S4096x256.size a := by
  have hj := j.isLt
  match a with
  | ⟨0, _⟩ => show 128 * (j.val / 2) + 128 ≤ 4096; omega
  | ⟨1, _⟩ => show 128 * (j.val % 2) + 128 ≤ 256; omega

/-- The row scales of tile `j` lie in their block. -/
theorem srow_inb (j : Fin 64) (a : Fin 3) : (![j.val % 2, j.val / 2 / 16, 128 * (j.val / 2 % 16)] : Fin 3 → Nat) a + S1x1x128.size a ≤ S2x2x2048.size a := by
  have hj := j.isLt
  match a with
  | ⟨0, _⟩ => show j.val % 2 + 1 ≤ 2; omega
  | ⟨1, _⟩ => show j.val / 2 / 16 + 1 ≤ 2; omega
  | ⟨2, _⟩ => show 128 * (j.val / 2 % 16) + 128 ≤ 2048; omega

/-- The transposed tile `j` lies in the block of column codes. -/
theorem tcol_inb (j : Fin 64) (a : Fin 3) : (![j.val / 2 / 16, 128 * (j.val % 2), 128 * (j.val / 2 % 16)] : Fin 3 → Nat) a + S1x128x128.size a ≤ S2x256x2048.size a := by
  have hj := j.isLt
  match a with
  | ⟨0, _⟩ => show j.val / 2 / 16 + 1 ≤ 2; omega
  | ⟨1, _⟩ => show 128 * (j.val % 2) + 128 ≤ 256; omega
  | ⟨2, _⟩ => show 128 * (j.val / 2 % 16) + 128 ≤ 2048; omega

/-- The column scales of tile `j` lie in their block. -/
theorem scol_inb (j : Fin 64) (a : Fin 3) : (![j.val / 2 / 16, j.val / 2 % 16, 128 * (j.val % 2)] : Fin 3 → Nat) a + S1x1x128.size a ≤ S2x16x256.size a := by
  have hj := j.isLt
  match a with
  | ⟨0, _⟩ => show j.val / 2 / 16 + 1 ≤ 2; omega
  | ⟨1, _⟩ => show j.val / 2 % 16 + 1 ≤ 16; omega
  | ⟨2, _⟩ => show 128 * (j.val % 2) + 128 ≤ 256; omega

/-- The tile beside `j` in column block `n`. -/
def beside (n : Fin 2) (j : Fin 64) : Fin 64 := ⟨2 * (j.val / 2) + n.val, by omega⟩

section Stores

variable (hid : Fin 64 → FVec F S256x256 .f32)

/-- The store of the codes of tile `j`. -/
def piece5 (j : Fin 64) : View.Piece (Elt F) S4096x256 .fp8e4m3 :=
  ⟨Rect.unit ![128 * (j.val / 2), 128 * (j.val % 2)] S128x128.size (tile_inb j), rowCodes (tileOf (hid j) j)⟩

/-- The store of the row scales of tile `j`. -/
def piece6 (j : Fin 64) : View.Piece (Elt F) S2x2x2048 .f32 :=
  ⟨Rect.unit ![j.val % 2, j.val / 2 / 16, 128 * (j.val / 2 % 16)] S1x1x128.size (srow_inb j),
    rowScaleOut (tileOf (hid j) (beside 0 j)) (tileOf (hid j) (beside 1 j)) j⟩

/-- The store of the transposed codes of tile `j`. -/
def piece7 (j : Fin 64) : View.Piece (Elt F) S2x256x2048 .fp8e4m3 :=
  ⟨Rect.unit ![j.val / 2 / 16, 128 * (j.val % 2), 128 * (j.val / 2 % 16)] S1x128x128.size (tcol_inb j), colCodes (tileOf (hid j) j)⟩

/-- The store of the column scales of tile `j`. -/
def piece8 (j : Fin 64) : View.Piece (Elt F) S2x16x256 .f32 :=
  ⟨Rect.unit ![j.val / 2 / 16, j.val / 2 % 16, 128 * (j.val % 2)] S1x1x128.size (scol_inb j),
    colScaleOut (tileOf (hid j) j)⟩

/-- The store of the widened codes of tile `j`. -/
def piece9 (j : Fin 64) : View.Piece (Elt F) S4096x256 .bf16 :=
  ⟨Rect.unit ![128 * (j.val / 2), 128 * (j.val % 2)] S128x128.size (tile_inb j), rowWide (tileOf (hid j) j)⟩

end Stores

end Cert.Up

end
-- ==== Proof.Tile.lean ====
/-
  The kernel's operations on one tile, read at an index over the extended reals.
-/
module

public import proofs.«01_k».proof.Proof.Spec
public import proofs.«01_k».proof.Proof.Model
public import Idealize.ShloMosaic.Lib.Pointwise

@[expose] public section

set_option maxRecDepth 16384

noncomputable section

namespace Cert.Up

open Idealize.ShloMosaic Idealize.ShloMosaic.TcCoe
open Cert.KernelIdeal Cert.KernelIdeal.Gen

/-- Every entry of `powV v` is the searched power of two of that entry of `v`. -/
theorem powV_apply {s : Shape} (v : FVec Ideal s .f32) (x : s.Idx) : powV v x = pow2R (v x) := by
  rw [← pow2K_eq_pow2R]
  have hs : ∀ (p : FVec Ideal s .f32) (b : BitVec 32), stepV v b p x = (if p x * Ideal.ofBits .f32 b ≤ v x then p x * Ideal.ofBits .f32 b else p x) := by
    intro p b
    pointwise [stepV]
  pointwise [powV, hs]
  simp only [bits_tw_neg126, bits_tw_neg1, bits_tw_1, bits_tw_2, bits_tw_4, bits_tw_8, bits_tw_16, bits_tw_32, bits_tw_64]
  rfl

/-- The row scales of a tile are the scales of its rows. -/
theorem rowScale_apply (h : FVec Ideal S128x128 .f32) (a : Fin 128) (z : Fin 1) : rowScale h (ix2 a z) = scaleOf fun k => h (ix2 a k) := by
  unfold rowScale scaleOf
  rw [powV_apply]
  pointwise []
  rw [bits_bot]
  rfl

/-- The column scales of a tile are the scales of its columns. -/
theorem colScale_apply (h : FVec Ideal S128x128 .f32) (z : Fin 1) (a : Fin 128) : colScale h (ix2 z a) = scaleOf fun k => h (ix2 k a) := by
  unfold colScale scaleOf
  rw [powV_apply]
  pointwise []
  rw [bits_bot]
  rfl

/-- The codes by rows. -/
theorem rowCodes_apply (h : FVec Ideal S128x128 .f32) (a b : Fin 128) : rowCodes h (ix2 a b) = codeOf (fun k => h (ix2 a k)) b := by
  pointwise [rowCodes, codesOf, rowScale_apply]
  rfl

/-- The widened codes by rows. -/
theorem rowWide_apply (h : FVec Ideal S128x128 .f32) (a b : Fin 128) : rowWide h (ix2 a b) = wideOf (fun k => h (ix2 a k)) b := by
  pointwise [rowWide, rowCodes_apply, rowScale_apply]
  rfl

/-- The codes by columns, transposed. -/
theorem colCodes_apply (h : FVec Ideal S128x128 .f32) (z : Fin 1) (b a : Fin 128) : colCodes h (ix3 z b a) = codeOf (fun k => h (ix2 k b)) a := by
  pointwise [colCodes, codesOf, colScale_apply]
  rfl

/-- The column scales as stored. -/
theorem colScaleOut_apply (h : FVec Ideal S128x128 .f32) (z y : Fin 1) (b : Fin 128) :
    colScaleOut h (ix3 z y b) = scaleOf fun k => h (ix2 k b) := by
  pointwise [colScaleOut, colScale_apply]

/-- The row scales of tile `j` as stored: lane `j % 2` of the register. -/
theorem rowScaleOut_apply (h0 h1 : FVec Ideal S128x128 .f32) (j : Fin 64) (z y : Fin 1) (a : Fin 128) :
    rowScaleOut h0 h1 j (ix3 z y a) = scaleOf fun k => (if j.val % 2 = 0 then h0 else h1) (ix2 a k) := by
  pointwise [rowScaleOut, laneSet, rowScale_apply]
  rcases Nat.mod_two_eq_zero_or_one j.val with e | e
  · rw [if_pos e, e]; rfl
  · rw [if_neg (by omega), e]; rfl

/-- A tile of the gated rows. -/
theorem tileOf_apply (h : FVec Ideal S256x256 .f32) (j : Fin 64) (r n : Fin 128) :
    tileOf h j (ix2 r n) = h (ix2 ⟨128 * (j.val / 2 % 2) + r.val, by omega⟩ ⟨128 * (j.val % 2) + n.val, by omega⟩) := by
  pointwise [tileOf]

/-- The gated rows. -/
theorem gated_apply (a : Vec Ideal S256x2560 .bf16) (g p : Vec Ideal S2560x256 .bf16) (r n : Fin 256) :
    gated a g p (ix2 r n) = gate (∑ k : Fin 2560, a (ix2 r k) * g (ix2 k n)) (∑ k : Fin 2560, a (ix2 r k) * p (ix2 k n)) := by
  pointwise [gated]
  rfl

/-- A widened weight: the code times the scale. -/
theorem widen_apply (s : EReal) (w : Vec Ideal S128x128 .fp8e4m3) (r n : Fin 128) : widen (F := Ideal) s w (ix2 r n) = w (ix2 r n) * s := by
  pointwise [widen]

end Cert.Up

end
-- ==== Proof.Runs.lean ====
/-
  The kernel's stores at one grid point are those of `Model.lean`.

  The generated run lists what one grid point stores, piece by piece. The lists are the model's, by evaluation: the unrolled
  program and the model are the same operations on the same values.
-/
module

public import proofs.«01_k».proof.Proof.Model

@[expose] public section

noncomputable section

namespace Cert.Up

open Idealize.ShloMosaic Idealize.ShloMosaic.TcCoe Idealize.ShloMosaic.Tactic
open Cert.KernelIdeal Cert.KernelIdeal.Gen

variable {F : FTy → Type} [FloatOps F]

/-- The whole of a scratch buffer. -/
def wholeW : Rect S2560x256 := Rect.unit ![0, 0] S2560x256.size inb_S2560x256_S2560x256_0_0

section

variable (c : Dev nD) (i : grid0.Coords) (arg1 : Memref sig .tc .smem S20x54 .f32) (harg1 : arg1.IsWhole) (arg2 : Memref sig .tc .smem S20x54 .f32) (harg2 : arg2.IsWhole) (arg3 : Memref sig .tc .vmem S4096x2560 .bf16) (harg3 : arg3.IsWhole) (arg4 : Memref sig .tc .vmem S2560x256 .fp8e4m3) (harg4 : arg4.IsWhole) (arg5 : Memref sig .tc .vmem S2560x256 .fp8e4m3) (harg5 : arg5.IsWhole) (arg6 : Memref sig .tc .vmem S4096x256 .fp8e4m3) (harg6 : arg6.IsWhole) (arg7 : Memref sig .tc .vmem S2x2x2048 .f32) (harg7 : arg7.IsWhole) (arg8 : Memref sig .tc .vmem S2x256x2048 .fp8e4m3) (harg8 : arg8.IsWhole) (arg9 : Memref sig .tc .vmem S2x16x256 .f32) (harg9 : arg9.IsWhole) (arg10 : Memref sig .tc .vmem S4096x256 .bf16) (harg10 : arg10.IsWhole) (arg11 : Memref sig .tc .vmem S2560x256 .bf16) (harg11 : arg11.IsWhole) (arg12 : Memref sig .tc .vmem S2560x256 .bf16) (harg12 : arg12.IsWhole)
  (x0 : Vec F S20x54 .f32) (x1 : Vec F S20x54 .f32) (x2 : Vec F S4096x2560 .bf16) (x3 : Vec F S2560x256 .fp8e4m3) (x4 : Vec F S2560x256 .fp8e4m3)

/-- The gated rows that tile `j` is cut from, on the buffers of a grid point. -/
def hidRun (j : Fin 64) : FVec F S256x256 .f32 :=
  gated (View.readAt (Elt F) arg3.view (chunk j).toLoadRect (harg3.unread x2))
    (arg11.view.readCov (downFrom 40 (wpiece i arg1 harg1 x0 arg4 harg4 x3)) wholeW.toLoadRect)
    (arg12.view.readCov (downFrom 40 (wpiece i arg2 harg2 x1 arg5 harg5 x4)) wholeW.toLoadRect)

/-- The scratch of the widened gate weight, tile by tile, latest first. -/
theorem scratch0_eq : kernelRun0_A.sl.HS0_40 c i arg1 harg1 arg4 harg4 x0 x3 = downFrom 40 (wpiece i arg1 harg1 x0 arg4 harg4 x3) := by
  sl_kernel_rfl

/-- The scratch of the widened up weight, tile by tile, latest first. -/
theorem scratch1_eq : kernelRun0_A.sl.HS1_40 c i arg2 harg2 arg5 harg5 x1 x4 = downFrom 40 (wpiece i arg2 harg2 x1 arg5 harg5 x4) := by
  sl_kernel_rfl

/-- The stores of a point into its block of the row codes, latest first, are the model's family. -/
theorem stores5_eq : (kernelRun0_A c i arg1 harg1 arg2 harg2 arg3 harg3 arg4 harg4 arg5 harg5 arg6 harg6 arg7 harg7 arg8 harg8 arg9 harg9 arg10 harg10 arg11 harg11 arg12 harg12 x0 x1 x2 x3 x4).1 = downFrom 64 (piece5 (hidRun i arg1 harg1 arg2 harg2 arg3 harg3 arg4 harg4 arg5 harg5 arg11 arg12 x0 x1 x2 x3 x4)) := by
  sl_kernel_rfl

/-- The stores of a point into its block of the row scales, latest first, are the model's family. -/
theorem stores6_eq : (kernelRun0_A c i arg1 harg1 arg2 harg2 arg3 harg3 arg4 harg4 arg5 harg5 arg6 harg6 arg7 harg7 arg8 harg8 arg9 harg9 arg10 harg10 arg11 harg11 arg12 harg12 x0 x1 x2 x3 x4).2.1 = downFrom 64 (piece6 (hidRun i arg1 harg1 arg2 harg2 arg3 harg3 arg4 harg4 arg5 harg5 arg11 arg12 x0 x1 x2 x3 x4)) := by
  sl_kernel_rfl

/-- The stores of a point into its block of the transposed column codes, latest first, are the model's family. -/
theorem stores7_eq : (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.1 = downFrom 64 (piece7 (hidRun i arg1 harg1 arg2 harg2 arg3 harg3 arg4 harg4 arg5 harg5 arg11 arg12 x0 x1 x2 x3 x4)) := by
  sl_kernel_rfl

/-- The stores of a point into its block of the column scales, latest first, are the model's family. -/
theorem stores8_eq : (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.1 = downFrom 64 (piece8 (hidRun i arg1 harg1 arg2 harg2 arg3 harg3 arg4 harg4 arg5 harg5 arg11 arg12 x0 x1 x2 x3 x4)) := by
  sl_kernel_rfl

/-- The stores of a point into its block of the widened row codes, latest first, are the model's family. -/
theorem stores9_eq : (kernelRun0_A c i arg1 harg1 arg2 harg2 arg3 harg3 arg4 harg4 arg5 harg5 arg6 harg6 arg7 harg7 arg8 harg8 arg9 harg9 arg10 harg10 arg11 harg11 arg12 harg12 x0 x1 x2 x3 x4).2.2.2.2.1 = downFrom 64 (piece9 (hidRun i arg1 harg1 arg2 harg2 arg3 harg3 arg4 harg4 arg5 harg5 arg11 arg12 x0 x1 x2 x3 x4)) := by
  sl_kernel_rfl

end

end Cert.Up

end
-- ==== Proof.Point.lean ====
/-
  What one grid point leaves in each output block, as a function of the blocks it reads, over the extended reals.
-/
module

public import proofs.«01_k».proof.Proof.Tile
public import proofs.«01_k».proof.Proof.Runs

@[expose] public section

set_option maxRecDepth 16384

noncomputable section

namespace Cert.Up

open Idealize.ShloMosaic Idealize.ShloMosaic.TcCoe
open Cert.KernelIdeal Cert.KernelIdeal.Gen

/-! ## Stores over a whole buffer -/

section Canon

variable {Val : EltTy → Type} [∀ e, Nonempty (Val e)] {s : Shape} {e : EltTy}

/-- Stores that are all blocks of one function leave that function wherever one of them reaches. -/
theorem canon_downFrom (G : s.Idx → Val e) : ∀ (n : Nat) (f : Fin n → View.Piece Val s e)
    (_ : ∀ (j : Fin n) (x : (f j).1.shape.Idx), (f j).2 x = G ((f j).1.emb x)) (y : s.Idx) (_ : ∃ j, y ∈ (f j).1.set),
    View.canon (downFrom n f) y = G y
  | 0, _, _, _, hc => hc.elim fun j _ => j.elim0
  | n + 1, f, hf, y, hc => by
    by_cases hy : y ∈ (f (Fin.last n)).1.set
    · obtain ⟨x, rfl⟩ : ∃ x, (f (Fin.last n)).1.emb x = y := LoadRect.exists_idx_of_mem _ hy
      exact (View.canon_cons_emb _ _ _ x).trans (hf _ x)
    · refine (View.canon_cons_of_not_mem _ _ hy).trans (canon_downFrom G n (fun j => f j.castSucc) (fun j x => hf _ x) y ?_)
      obtain ⟨j, hj⟩ := hc
      have hne : j ≠ Fin.last n := fun h => hy (h ▸ hj)
      exact ⟨j.castPred hne, by rwa [Fin.castSucc_castPred]⟩

end Canon

/-- An index of a rectangle, placed: the offset plus the index. -/
theorem emb_unit_val {s : Shape} (off size : Fin s.rank → Nat) (inb) (j : (Rect.unit off size inb).shape.Idx) (a : Fin s.rank) :
    ((Rect.unit off size inb).emb j a : Nat) = off a + j a := by
  rw [Rect.emb_apply]
  show off a + 1 * (j a : Nat) = _
  omega

/-- The place of entry `(a, b)` of a 128 × 128 tile at `(o, p)` of a matrix. -/
theorem emb_tile {m n o p : Nat} (h : ∀ a, (![o, p] : Fin 2 → Nat) a + S128x128.size a ≤ (⟨2, ![m, n]⟩ : Shape).size a) (a b : Fin 128)
    (ha : o + a.val < m) (hb : p + b.val < n) :
    (Rect.unit (s := (⟨2, ![m, n]⟩ : Shape)) ![o, p] S128x128.size h).emb (ix2 a b) = ix2 ⟨o + a.val, ha⟩ ⟨p + b.val, hb⟩ := by
  funext k
  apply Fin.ext
  rw [emb_unit_val]
  match k with
  | ⟨0, _⟩ => rfl
  | ⟨1, _⟩ => rfl

/-! ## The widened weights -/

/-- A weight block widened: entry `(k, n)` times the scale of its tile. -/
def wideB (i : grid0.Coords) (x : Vec Ideal S20x54 .f32) (w : Vec Ideal S2560x256 .fp8e4m3) (k : Fin 2560) (n : Fin 256) : EReal :=
  have hi : (i 0).val < 27 := (i 0).isLt
  (w (ix2 k n) : EReal) * x (ix2 ⟨k.val / 128, by omega⟩ ⟨2 * (i 0).val + n.val / 128, by omega⟩)

section Scratch

variable (i : grid0.Coords) (s : Memref sig .tc .smem S20x54 .f32) (hs : s.IsWhole) (x : Vec Ideal S20x54 .f32)
  (w : Memref sig .tc .vmem S2560x256 .fp8e4m3) (hw : w.IsWhole) (y : Vec Ideal S2560x256 .fp8e4m3)

/-- The scale read for weight tile `j`. -/
theorem scaleAt_eq (j : Fin 40) :
    have hi : (i 0).val < 27 := (i 0).isLt
    scaleAt i s hs x j = x (ix2 ⟨j.val / 2, by omega⟩ ⟨2 * (i 0).val + j.val % 2, by omega⟩) := by
  intro hi
  unfold scaleAt
  rw [View.readAt_eq_ld, hs.read_unread]
  show x _ = x _
  congr 1
  funext k
  apply Fin.ext
  have e := congrFun (scaleOff_eq i j) k
  have z : ((Rect.unit (s := S20x54) (scaleOff i j) S1x1.size (scaleOff_inb i j)).emb (Shape.Idx.first (numel1_S1x1.symm ▸ Nat.one_pos)) k).val = scaleOff i j k := by
    rw [emb_unit_val]
    exact Nat.add_zero _
  refine z.trans (e.trans ?_)
  match k with
  | ⟨0, _⟩ => rfl
  | ⟨1, _⟩ => rfl

/-- The scratch read back holds the widened weight block. -/
theorem scratch_apply (v : View sig .tc .vmem S2560x256 .bf16) (k : Fin 2560) (n : Fin 256) :
    v.readCov (downFrom 40 (wpiece i s hs x w hw y)) wholeW.toLoadRect (ix2 k n) = wideB i x y k n := by
  have hi : (i 0).val < 27 := (i 0).isLt
  rw [View.readCov_eq_canon']
  have hz : wholeW.toLoadRect.idx (ix2 k n) = (ix2 k n : S2560x256.Idx) := by
    funext a
    apply Fin.ext
    refine (emb_unit_val ![0, 0] S2560x256.size inb_S2560x256_S2560x256_0_0 (ix2 k n) a).trans ?_
    match a with
    | ⟨0, _⟩ => exact Nat.zero_add _
    | ⟨1, _⟩ => exact Nat.zero_add _
  show View.canon _ (wholeW.toLoadRect.idx (ix2 k n)) = _
  rw [hz]
  refine canon_downFrom (Val := Elt Ideal) (e := .bf16) (fun z : S2560x256.Idx => wideB i x y (z 0) (z 1)) 40 _ ?_ _ ?_
  · intro j z
    obtain ⟨a, b, rfl⟩ : ∃ (a b : Fin 128), z = ix2 a b := ⟨z 0, z 1, eq_ix2 z⟩
    have hj := j.isLt
    refine (widen_apply _ _ a b).trans ?_
    rw [scaleAt_eq]
    have e : (wtile j).emb (ix2 a b) = ix2 ⟨128 * (j.val / 2) + a.val, by omega⟩ ⟨128 * (j.val % 2) + b.val, by omega⟩ := emb_tile _ a b _ _
    have r : View.readAt (Elt Ideal) w.view (wtile j).toLoadRect (hw.unread y) (ix2 a b) = y ((wtile j).emb (ix2 a b)) :=
      congrFun (hw.read_unread y) _
    show View.readAt (Elt Ideal) w.view (wtile j).toLoadRect (hw.unread y) (ix2 a b) * _ = wideB i x y ((wtile j).emb (ix2 a b) 0) ((wtile j).emb (ix2 a b) 1)
    rw [r, e]
    unfold wideB
    congr 3
    · apply Fin.ext; show j.val / 2 = (128 * (j.val / 2) + a.val) / 128; omega
    · apply Fin.ext; show 2 * (i 0).val + j.val % 2 = 2 * (i 0).val + (128 * (j.val % 2) + b.val) / 128; omega
  · refine ⟨⟨2 * (k.val / 128) + n.val / 128, by omega⟩, (Rect.mem_set_unit (inb := wtile_inb _)).mpr ?_⟩
    intro a
    match a with
    | ⟨0, _⟩ =>
      show 128 * ((2 * (k.val / 128) + n.val / 128) / 2) ≤ k.val ∧ k.val < 128 * ((2 * (k.val / 128) + n.val / 128) / 2) + 128
      omega
    | ⟨1, _⟩ =>
      show 128 * ((2 * (k.val / 128) + n.val / 128) % 2) ≤ n.val ∧ n.val < 128 * ((2 * (k.val / 128) + n.val / 128) % 2) + 128
      omega

end Scratch

/-! ## The five output blocks -/

/-- The place of entry `(a, b, c)` of a box of size `s0 × s1 × s2` at `(o, p, q)`. -/
theorem emb_box {m n l o p q s0 s1 s2 : Nat} (h : ∀ a, (![o, p, q] : Fin 3 → Nat) a + (![s0, s1, s2] : Fin 3 → Nat) a ≤ (⟨3, ![m, n, l]⟩ : Shape).size a)
    (a : Fin s0) (b : Fin s1) (c : Fin s2) (ha : o + a.val < m) (hb : p + b.val < n) (hc : q + c.val < l) :
    (Rect.unit (s := (⟨3, ![m, n, l]⟩ : Shape)) ![o, p, q] ![s0, s1, s2] h).emb (ix3 a b c) = ix3 ⟨o + a.val, ha⟩ ⟨p + b.val, hb⟩ ⟨q + c.val, hc⟩ := by
  funext k
  apply Fin.ext
  rw [emb_unit_val]
  match k with
  | ⟨0, _⟩ => rfl
  | ⟨1, _⟩ => rfl
  | ⟨2, _⟩ => rfl

/-! Every entry of an output block is reached by one of its 64 stores. -/

/-- Every element of the block of row codes is in some tile. -/
theorem reach_tile (y : S4096x256.Idx) : ∃ j : Fin 64, y ∈ (Rect.unit (s := S4096x256) ![128 * (j.val / 2), 128 * (j.val % 2)] S128x128.size (tile_inb j)).set := by
  obtain ⟨r, n, rfl⟩ : ∃ (r : Fin 4096) (n : Fin 256), y = ix2 r n := ⟨y 0, y 1, eq_ix2 y⟩
  refine ⟨⟨2 * (r.val / 128) + n.val / 128, by omega⟩, (Rect.mem_set_unit (inb := tile_inb _)).mpr ?_⟩
  intro a
  match a with
  | ⟨0, _⟩ =>
    show 128 * ((2 * (r.val / 128) + n.val / 128) / 2) ≤ r.val ∧ r.val < 128 * ((2 * (r.val / 128) + n.val / 128) / 2) + 128
    omega
  | ⟨1, _⟩ =>
    show 128 * ((2 * (r.val / 128) + n.val / 128) % 2) ≤ n.val ∧ n.val < 128 * ((2 * (r.val / 128) + n.val / 128) % 2) + 128
    omega

/-- Every row scale of the block is stored by some tile. -/
theorem reach_srow (y : S2x2x2048.Idx) : ∃ j : Fin 64, y ∈ (Rect.unit (s := S2x2x2048) ![j.val % 2, j.val / 2 / 16, 128 * (j.val / 2 % 16)] S1x1x128.size (srow_inb j)).set := by
  obtain ⟨q, b, r, rfl⟩ : ∃ (q b : Fin 2) (r : Fin 2048), y = ix3 q b r := ⟨y 0, y 1, y 2, eq_ix3 y⟩
  refine ⟨⟨2 * (16 * b.val + r.val / 128) + q.val, by omega⟩, (Rect.mem_set_unit (inb := srow_inb _)).mpr ?_⟩
  intro a
  match a with
  | ⟨0, _⟩ => show (2 * (16 * b.val + r.val / 128) + q.val) % 2 ≤ q.val ∧ q.val < (2 * (16 * b.val + r.val / 128) + q.val) % 2 + 1; omega
  | ⟨1, _⟩ => show (2 * (16 * b.val + r.val / 128) + q.val) / 2 / 16 ≤ b.val ∧ b.val < (2 * (16 * b.val + r.val / 128) + q.val) / 2 / 16 + 1; omega
  | ⟨2, _⟩ => show 128 * ((2 * (16 * b.val + r.val / 128) + q.val) / 2 % 16) ≤ r.val ∧ r.val < 128 * ((2 * (16 * b.val + r.val / 128) + q.val) / 2 % 16) + 128; omega

/-- Every element of the block of column codes is in some transposed tile. -/
theorem reach_tcol (y : S2x256x2048.Idx) : ∃ j : Fin 64, y ∈ (Rect.unit (s := S2x256x2048) ![j.val / 2 / 16, 128 * (j.val % 2), 128 * (j.val / 2 % 16)] S1x128x128.size (tcol_inb j)).set := by
  obtain ⟨b, n, r, rfl⟩ : ∃ (b : Fin 2) (n : Fin 256) (r : Fin 2048), y = ix3 b n r := ⟨y 0, y 1, y 2, eq_ix3 y⟩
  refine ⟨⟨2 * (16 * b.val + r.val / 128) + n.val / 128, by omega⟩, (Rect.mem_set_unit (inb := tcol_inb _)).mpr ?_⟩
  intro a
  match a with
  | ⟨0, _⟩ => show (2 * (16 * b.val + r.val / 128) + n.val / 128) / 2 / 16 ≤ b.val ∧ b.val < (2 * (16 * b.val + r.val / 128) + n.val / 128) / 2 / 16 + 1; omega
  | ⟨1, _⟩ => show 128 * ((2 * (16 * b.val + r.val / 128) + n.val / 128) % 2) ≤ n.val ∧ n.val < 128 * ((2 * (16 * b.val + r.val / 128) + n.val / 128) % 2) + 128; omega
  | ⟨2, _⟩ => show 128 * ((2 * (16 * b.val + r.val / 128) + n.val / 128) / 2 % 16) ≤ r.val ∧ r.val < 128 * ((2 * (16 * b.val + r.val / 128) + n.val / 128) / 2 % 16) + 128; omega

/-- Every column scale of the block is stored by some tile. -/
theorem reach_scol (y : S2x16x256.Idx) : ∃ j : Fin 64, y ∈ (Rect.unit (s := S2x16x256) ![j.val / 2 / 16, j.val / 2 % 16, 128 * (j.val % 2)] S1x1x128.size (scol_inb j)).set := by
  obtain ⟨b, u, n, rfl⟩ : ∃ (b : Fin 2) (u : Fin 16) (n : Fin 256), y = ix3 b u n := ⟨y 0, y 1, y 2, eq_ix3 y⟩
  refine ⟨⟨2 * (16 * b.val + u.val) + n.val / 128, by omega⟩, (Rect.mem_set_unit (inb := scol_inb _)).mpr ?_⟩
  intro a
  match a with
  | ⟨0, _⟩ => show (2 * (16 * b.val + u.val) + n.val / 128) / 2 / 16 ≤ b.val ∧ b.val < (2 * (16 * b.val + u.val) + n.val / 128) / 2 / 16 + 1; omega
  | ⟨1, _⟩ => show (2 * (16 * b.val + u.val) + n.val / 128) / 2 % 16 ≤ u.val ∧ u.val < (2 * (16 * b.val + u.val) + n.val / 128) / 2 % 16 + 1; omega
  | ⟨2, _⟩ => show 128 * ((2 * (16 * b.val + u.val) + n.val / 128) % 2) ≤ n.val ∧ n.val < 128 * ((2 * (16 * b.val + u.val) + n.val / 128) % 2) + 128; omega

section Blocks

variable (hid : Fin 64 → FVec Ideal S256x256 .f32) (H : Fin 4096 → Fin 256 → EReal)
  (hT : ∀ (j l : Fin 64) (_ : l.val / 2 = j.val / 2) (a b : Fin 128),
    tileOf (hid j) l (ix2 a b) = H ⟨128 * (j.val / 2) + a.val, by omega⟩ ⟨128 * (l.val % 2) + b.val, by omega⟩)

include hT

/-- The block of codes. -/
theorem block5 : View.canon (downFrom 64 (piece5 hid)) = fun y : S4096x256.Idx => codeAt (N := 256) (by decide) H (y 0) (y 1) := by
  funext y
  refine canon_downFrom (Val := Elt Ideal) (e := .fp8e4m3) (fun y : S4096x256.Idx => codeAt (N := 256) (by decide) H (y 0) (y 1)) 64 _ ?_ y (reach_tile y)
  intro j z
  obtain ⟨a, b, rfl⟩ : ∃ (a b : Fin 128), z = ix2 a b := ⟨z 0, z 1, eq_ix2 z⟩
  have e : (piece5 hid j).1.emb (ix2 a b) = ix2 ⟨128 * (j.val / 2) + a.val, by omega⟩ ⟨128 * (j.val % 2) + b.val, by omega⟩ := emb_tile (tile_inb j) a b _ _
  refine (rowCodes_apply _ a b).trans ?_
  rw [e]
  exact codeOf_congr (fun k => (hT j j rfl a k).trans (at_congr H rfl (show 128 * (j.val % 2) + k.val = 128 * ((128 * (j.val % 2) + b.val) / 128) + k.val by omega)))
    (show b.val = (128 * (j.val % 2) + b.val) % 128 by omega)

/-- The block of widened codes. -/
theorem block9 : View.canon (downFrom 64 (piece9 hid)) = fun y : S4096x256.Idx => wideAt (N := 256) (by decide) H (y 0) (y 1) := by
  funext y
  refine canon_downFrom (Val := Elt Ideal) (e := .bf16) (fun y : S4096x256.Idx => wideAt (N := 256) (by decide) H (y 0) (y 1)) 64 _ ?_ y (reach_tile y)
  intro j z
  obtain ⟨a, b, rfl⟩ : ∃ (a b : Fin 128), z = ix2 a b := ⟨z 0, z 1, eq_ix2 z⟩
  have e : (piece9 hid j).1.emb (ix2 a b) = ix2 ⟨128 * (j.val / 2) + a.val, by omega⟩ ⟨128 * (j.val % 2) + b.val, by omega⟩ := emb_tile (tile_inb j) a b _ _
  refine (rowWide_apply _ a b).trans ?_
  rw [e]
  exact wideOf_congr (fun k => (hT j j rfl a k).trans (at_congr H rfl (show 128 * (j.val % 2) + k.val = 128 * ((128 * (j.val % 2) + b.val) / 128) + k.val by omega)))
    (show b.val = (128 * (j.val % 2) + b.val) % 128 by omega)

/-- The block of row scales. -/
theorem block6 : View.canon (downFrom 64 (piece6 hid)) = fun y : S2x2x2048.Idx =>
    scaleRowAt (N := 256) H (y 0).val (by have h : (y 0).val < 2 := (y 0).isLt; omega) (y 1) (y 2) := by
  funext y
  refine canon_downFrom (Val := Elt Ideal) (e := .f32) (fun y : S2x2x2048.Idx =>
    scaleRowAt (N := 256) H (y 0).val (by have h : (y 0).val < 2 := (y 0).isLt; omega) (y 1) (y 2)) 64 _ ?_ y (reach_srow y)
  intro j z
  obtain ⟨c, d, a, rfl⟩ : ∃ (c d : Fin 1) (a : Fin 128), z = ix3 c d a := ⟨z 0, z 1, z 2, eq_ix3 z⟩
  have e : (piece6 hid j).1.emb (ix3 c d a) = ix3 ⟨j.val % 2 + c.val, by omega⟩ ⟨j.val / 2 / 16 + d.val, by omega⟩ ⟨128 * (j.val / 2 % 16) + a.val, by omega⟩ :=
    emb_box (srow_inb j) c d a _ _ _
  refine (rowScaleOut_apply _ _ j c d a).trans ?_
  rw [e]
  refine scaleOf_congr fun k => ?_
  have g : (if j.val % 2 = 0 then tileOf (hid j) (beside 0 j) else tileOf (hid j) (beside 1 j)) (ix2 a k) = H ⟨128 * (j.val / 2) + a.val, by omega⟩ ⟨128 * (j.val % 2) + k.val, by omega⟩ := by
    split
    · exact (hT j (beside 0 j) (show (2 * (j.val / 2) + 0) / 2 = j.val / 2 by omega) a k).trans
        (at_congr H rfl (show 128 * ((2 * (j.val / 2) + 0) % 2) + k.val = 128 * (j.val % 2) + k.val by omega))
    · exact (hT j (beside 1 j) (show (2 * (j.val / 2) + 1) / 2 = j.val / 2 by omega) a k).trans
        (at_congr H rfl (show 128 * ((2 * (j.val / 2) + 1) % 2) + k.val = 128 * (j.val % 2) + k.val by omega))
  exact g.trans (at_congr H (show 128 * (j.val / 2) + a.val = 2048 * (j.val / 2 / 16 + d.val) + (128 * (j.val / 2 % 16) + a.val) by omega)
    (show 128 * (j.val % 2) + k.val = 128 * (j.val % 2 + c.val) + k.val by omega))

/-- The block of transposed codes. -/
theorem block7 : View.canon (downFrom 64 (piece7 hid)) = fun y : S2x256x2048.Idx => codeColAt (N := 256) H (y 0) (y 1) (y 2) := by
  funext y
  refine canon_downFrom (Val := Elt Ideal) (e := .fp8e4m3) (fun y : S2x256x2048.Idx => codeColAt (N := 256) H (y 0) (y 1) (y 2)) 64 _ ?_ y (reach_tcol y)
  intro j z
  obtain ⟨c, b, a, rfl⟩ : ∃ (c : Fin 1) (b a : Fin 128), z = ix3 c b a := ⟨z 0, z 1, z 2, eq_ix3 z⟩
  have e : (piece7 hid j).1.emb (ix3 c b a) = ix3 ⟨j.val / 2 / 16 + c.val, by omega⟩ ⟨128 * (j.val % 2) + b.val, by omega⟩ ⟨128 * (j.val / 2 % 16) + a.val, by omega⟩ :=
    emb_box (tcol_inb j) c b a _ _ _
  refine (colCodes_apply _ c b a).trans ?_
  rw [e]
  exact codeOf_congr (fun k => (hT j j rfl k b).trans (at_congr H
    (show 128 * (j.val / 2) + k.val = 128 * (16 * (j.val / 2 / 16 + c.val) + (128 * (j.val / 2 % 16) + a.val) / 128) + k.val by omega) rfl))
    (show a.val = (128 * (j.val / 2 % 16) + a.val) % 128 by omega)

/-- The block of column scales. -/
theorem block8 : View.canon (downFrom 64 (piece8 hid)) = fun y : S2x16x256.Idx => scaleColAt (N := 256) H (y 0) (y 1) (y 2) := by
  funext y
  refine canon_downFrom (Val := Elt Ideal) (e := .f32) (fun y : S2x16x256.Idx => scaleColAt (N := 256) H (y 0) (y 1) (y 2)) 64 _ ?_ y (reach_scol y)
  intro j z
  obtain ⟨c, d, b, rfl⟩ : ∃ (c d : Fin 1) (b : Fin 128), z = ix3 c d b := ⟨z 0, z 1, z 2, eq_ix3 z⟩
  have e : (piece8 hid j).1.emb (ix3 c d b) = ix3 ⟨j.val / 2 / 16 + c.val, by omega⟩ ⟨j.val / 2 % 16 + d.val, by omega⟩ ⟨128 * (j.val % 2) + b.val, by omega⟩ :=
    emb_box (scol_inb j) c d b _ _ _
  have v : (piece8 hid j).2 = colScaleOut (tileOf (hid j) j) := by dsimp only [piece8]
  have g := colScaleOut_apply (tileOf (hid j) j) c d b
  refine (congrFun v _).trans (g.trans ?_)
  rw [e]
  exact scaleOf_congr fun k => (hT j j rfl k b).trans (at_congr H
    (show 128 * (j.val / 2) + k.val = 128 * (16 * (j.val / 2 / 16 + c.val) + (j.val / 2 % 16 + d.val)) + k.val by omega) rfl)

end Blocks

/-! ## The gated rows -/

/-- The gated rows of a grid point: the activation times the two widened weight blocks, through the gated unit. -/
def hidB (i : grid0.Coords) (x0 x1 : Vec Ideal S20x54 .f32) (x2 : Vec Ideal S4096x2560 .bf16) (x3 x4 : Vec Ideal S2560x256 .fp8e4m3)
    (r : Fin 4096) (n : Fin 256) : EReal :=
  gate (∑ k : Fin 2560, (x2 (ix2 r k) : EReal) * wideB i x0 x3 k n) (∑ k : Fin 2560, (x2 (ix2 r k) : EReal) * wideB i x1 x4 k n)

section Hid

variable (i : grid0.Coords) (arg1 : Memref sig .tc .smem S20x54 .f32) (harg1 : arg1.IsWhole) (arg2 : Memref sig .tc .smem S20x54 .f32) (harg2 : arg2.IsWhole)
  (arg3 : Memref sig .tc .vmem S4096x2560 .bf16) (harg3 : arg3.IsWhole) (arg4 : Memref sig .tc .vmem S2560x256 .fp8e4m3) (harg4 : arg4.IsWhole)
  (arg5 : Memref sig .tc .vmem S2560x256 .fp8e4m3) (harg5 : arg5.IsWhole) (arg11 arg12 : Memref sig .tc .vmem S2560x256 .bf16)
  (x0 x1 : Vec Ideal S20x54 .f32) (x2 : Vec Ideal S4096x2560 .bf16) (x3 x4 : Vec Ideal S2560x256 .fp8e4m3)

/-- A tile of the gated rows, at an index. -/
theorem tile_hid (j l : Fin 64) (h : l.val / 2 = j.val / 2) (a b : Fin 128) :
    tileOf (hidRun i arg1 harg1 arg2 harg2 arg3 harg3 arg4 harg4 arg5 harg5 arg11 arg12 x0 x1 x2 x3 x4 j) l (ix2 a b) =
      hidB i x0 x1 x2 x3 x4 ⟨128 * (j.val / 2) + a.val, by omega⟩ ⟨128 * (l.val % 2) + b.val, by omega⟩ := by
  refine (tileOf_apply _ l a b).trans ((gated_apply _ _ _ _ _).trans ?_)
  unfold hidB
  have ha : ∀ k : Fin 2560, View.readAt (Elt Ideal) arg3.view (chunk j).toLoadRect (harg3.unread x2) (ix2 ⟨128 * (l.val / 2 % 2) + a.val, by omega⟩ k)
      = x2 (ix2 ⟨128 * (j.val / 2) + a.val, by omega⟩ k) := by
    intro k
    have r : View.readAt (Elt Ideal) arg3.view (chunk j).toLoadRect (harg3.unread x2) (ix2 ⟨128 * (l.val / 2 % 2) + a.val, by omega⟩ k)
        = x2 ((chunk j).emb (ix2 ⟨128 * (l.val / 2 % 2) + a.val, by omega⟩ k)) := congrFun (harg3.read_unread x2) _
    refine r.trans (congrArg x2 (funext fun c => Fin.ext ?_))
    refine (emb_unit_val _ _ (chunk_inb j) _ c).trans ?_
    match c with
    | ⟨0, _⟩ => show 256 * (j.val / 4) + (128 * (l.val / 2 % 2) + a.val) = 128 * (j.val / 2) + a.val; omega
    | ⟨1, _⟩ => exact Nat.zero_add _
  congr 1
  · refine Finset.sum_congr rfl fun k _ => ?_
    exact congr (congrArg _ (ha k)) (scratch_apply i arg1 harg1 x0 arg4 harg4 x3 arg11.view k _)
  · refine Finset.sum_congr rfl fun k _ => ?_
    exact congr (congrArg _ (ha k)) (scratch_apply i arg2 harg2 x1 arg5 harg5 x4 arg12.view k _)

end Hid

end Cert.Up

end
-- ==== Proof.KernelBlock.lean ====
/-
  What one grid point of the kernel leaves in its five output blocks.
-/
module

public import proofs.«01_k».proof.Proof.Point

@[expose] public section

set_option maxRecDepth 16384

noncomputable section

namespace Cert.Up

open Idealize.ShloMosaic Idealize.ShloMosaic.TcCoe
open Cert.KernelIdeal Cert.KernelIdeal.Gen

variable (c : Dev nD) (i : grid0.Coords)
  (arg1 : Memref sig .tc .smem S20x54 .f32) (harg1 : arg1.IsWhole)
  (arg2 : Memref sig .tc .smem S20x54 .f32) (harg2 : arg2.IsWhole)
  (arg3 : Memref sig .tc .vmem S4096x2560 .bf16) (harg3 : arg3.IsWhole)
  (arg4 : Memref sig .tc .vmem S2560x256 .fp8e4m3) (harg4 : arg4.IsWhole)
  (arg5 : Memref sig .tc .vmem S2560x256 .fp8e4m3) (harg5 : arg5.IsWhole)
  (arg6 : Memref sig .tc .vmem S4096x256 .fp8e4m3) (harg6 : arg6.IsWhole)
  (arg7 : Memref sig .tc .vmem S2x2x2048 .f32) (harg7 : arg7.IsWhole)
  (arg8 : Memref sig .tc .vmem S2x256x2048 .fp8e4m3) (harg8 : arg8.IsWhole)
  (arg9 : Memref sig .tc .vmem S2x16x256 .f32) (harg9 : arg9.IsWhole)
  (arg10 : Memref sig .tc .vmem S4096x256 .bf16) (harg10 : arg10.IsWhole)
  (arg11 : Memref sig .tc .vmem S2560x256 .bf16) (harg11 : arg11.IsWhole)
  (arg12 : Memref sig .tc .vmem S2560x256 .bf16) (harg12 : arg12.IsWhole)
  (x0 x1 : Vec Ideal S20x54 .f32) (x2 : Vec Ideal S4096x2560 .bf16) (x3 x4 : Vec Ideal S2560x256 .fp8e4m3)

/-! Each block the run leaves is the codes or scales of the gated rows of the point. -/

/-- Output block 5 of a point: the row codes of the point's gated rows. -/
theorem out5_eq : out0_A_5 c i arg1 harg1 arg2 harg2 arg3 harg3 arg4 harg4 arg5 harg5 arg6 harg6 arg7 harg7 arg8 harg8 arg9 harg9 arg10 harg10 arg11 harg11 arg12 harg12 x0 x1 x2 x3 x4 = fun y : S4096x256.Idx => codeAt (N := 256) (by decide) (hidB i x0 x1 x2 x3 x4) (y 0) (y 1) := by
  unfold out0_A_5
  rw [View.read_writes_junk_eq_canon, stores5_eq]
  exact block5 _ _ (tile_hid i arg1 harg1 arg2 harg2 arg3 harg3 arg4 harg4 arg5 harg5 arg11 arg12 x0 x1 x2 x3 x4)

/-- Output block 6 of a point: the row scales of the point's gated rows. -/
theorem out6_eq : out0_A_6 c i arg1 harg1 arg2 harg2 arg3 harg3 arg4 harg4 arg5 harg5 arg6 harg6 arg7 harg7 arg8 harg8 arg9 harg9 arg10 harg10 arg11 harg11 arg12 harg12 x0 x1 x2 x3 x4 = fun y : S2x2x2048.Idx => scaleRowAt (N := 256) (hidB i x0 x1 x2 x3 x4) (y 0).val (by have h : (y 0).val < 2 := (y 0).isLt; omega) (y 1) (y 2) := by
  unfold out0_A_6
  rw [View.read_writes_junk_eq_canon, stores6_eq]
  exact block6 _ _ (tile_hid i arg1 harg1 arg2 harg2 arg3 harg3 arg4 harg4 arg5 harg5 arg11 arg12 x0 x1 x2 x3 x4)

/-- Output block 7 of a point: the transposed column codes of the point's gated rows. -/
theorem out7_eq : out0_A_7 c i arg1 harg1 arg2 harg2 arg3 harg3 arg4 harg4 arg5 harg5 arg6 harg6 arg7 harg7 arg8 harg8 arg9 harg9 arg10 harg10 arg11 harg11 arg12 harg12 x0 x1 x2 x3 x4 = fun y : S2x256x2048.Idx => codeColAt (N := 256) (hidB i x0 x1 x2 x3 x4) (y 0) (y 1) (y 2) := by
  unfold out0_A_7
  rw [View.read_writes_junk_eq_canon, stores7_eq]
  exact block7 _ _ (tile_hid i arg1 harg1 arg2 harg2 arg3 harg3 arg4 harg4 arg5 harg5 arg11 arg12 x0 x1 x2 x3 x4)

/-- Output block 8 of a point: the column scales of the point's gated rows. -/
theorem out8_eq : out0_A_8 c i arg1 harg1 arg2 harg2 arg3 harg3 arg4 harg4 arg5 harg5 arg6 harg6 arg7 harg7 arg8 harg8 arg9 harg9 arg10 harg10 arg11 harg11 arg12 harg12 x0 x1 x2 x3 x4 = fun y : S2x16x256.Idx => scaleColAt (N := 256) (hidB i x0 x1 x2 x3 x4) (y 0) (y 1) (y 2) := by
  unfold out0_A_8
  rw [View.read_writes_junk_eq_canon, stores8_eq]
  exact block8 _ _ (tile_hid i arg1 harg1 arg2 harg2 arg3 harg3 arg4 harg4 arg5 harg5 arg11 arg12 x0 x1 x2 x3 x4)

/-- Output block 9 of a point: the widened row codes of the point's gated rows. -/
theorem out9_eq : out0_A_9 c i arg1 harg1 arg2 harg2 arg3 harg3 arg4 harg4 arg5 harg5 arg6 harg6 arg7 harg7 arg8 harg8 arg9 harg9 arg10 harg10 arg11 harg11 arg12 harg12 x0 x1 x2 x3 x4 = fun y : S4096x256.Idx => wideAt (N := 256) (by decide) (hidB i x0 x1 x2 x3 x4) (y 0) (y 1) := by
  unfold out0_A_9
  rw [View.read_writes_junk_eq_canon, stores9_eq]
  exact block9 _ _ (tile_hid i arg1 harg1 arg2 harg2 arg3 harg3 arg4 harg4 arg5 harg5 arg11 arg12 x0 x1 x2 x3 x4)

end Cert.Up

end
-- ==== Proof.Results.lean ====
/-
  The five result arrays as functions of the five argument arrays, over the extended reals.
-/
module

public import proofs.«01_k».proof.Proof.Spec
public import Idealize.ShloMosaic.Lib.Pointwise

@[expose] public section

noncomputable section

namespace Cert.Up

open Idealize.ShloMosaic

/-- An array with two axes. -/
abbrev A2 (a b : Nat) : Type := (⟨2, ![a, b]⟩ : Shape).Idx → EReal

/-- An array with three axes. -/
abbrev A3 (a b c : Nat) : Type := (⟨3, ![a, b, c]⟩ : Shape).Idx → EReal

variable (x0 x1 : A2 20 54) (x2 : A2 4096 2560) (x3 x4 : A2 2560 6912)

/-- The gated rows of the arguments. -/
def hidden : Fin 4096 → Fin 6912 → EReal :=
  hid (fun a b => x0 (ix2 a b)) (fun a b => x1 (ix2 a b)) (fun a b => x2 (ix2 a b)) (fun a b => x3 (ix2 a b)) (fun a b => x4 (ix2 a b))

/-- First result: the row codes. -/
def res5 : A2 4096 6912 := fun y => codeAt (by decide) (hidden x0 x1 x2 x3 x4) (y 0) (y 1)

/-- Second result: the row scales, by column block, sequence and token. -/
def res6 : A3 54 2 2048 := fun y =>
  scaleRowAt (hidden x0 x1 x2 x3 x4) (y 0).val (by have h : (y 0).val < 54 := (y 0).isLt; omega) (y 1) (y 2)

/-- Third result: the column codes, transposed. -/
def res7 : A3 2 6912 2048 := fun y => codeColAt (hidden x0 x1 x2 x3 x4) (y 0) (y 1) (y 2)

/-- Fourth result: the column scales. -/
def res8 : A3 2 16 6912 := fun y => scaleColAt (hidden x0 x1 x2 x3 x4) (y 0) (y 1) (y 2)

/-- Fifth result: the row codes times their scales. -/
def res9 : A2 4096 6912 := fun y => wideAt (by decide) (hidden x0 x1 x2 x3 x4) (y 0) (y 1)

end Cert.Up

end
-- ==== Proof.KernelRun.lean ====
/-
  The kernel's run over the extended reals: its five result arrays are the five functions of the arguments.
-/
module

public import proofs.«01_k».proof.Proof.KernelBlock
public import proofs.«01_k».proof.Proof.Results
public import proofs.«01_k».proof.Proof.Gen.KernelIdeal.Value
public import Idealize.ShloMosaic.Lib.Pipeline.ValueKit

@[expose] public section

set_option maxRecDepth 16384

noncomputable section

namespace Cert.Up.KernelRun

open Idealize.ShloMosaic Idealize.ShloMosaic.TcCoe Idealize.SL.Sem
open Idealize.ShloMosaic.Pipeline (Dat)
open Cert.KernelIdeal Cert.KernelIdeal.Gen

/-! ## Where each window's block sits in its array at grid point `t` -/

/-- The grid's one coordinate is the point's number. -/
theorem coord : ∀ t : Fin cfg0.N, ((grid0.coords t) 0).val = t.val :=
  (by decide +kernel : ∀ t : Fin grid0.N, _)

/-- The block index of every window: the scales and activations have one block, every other array one block a point. -/
theorem idx : ∀ t : Fin cfg0.N,
    win0_0.index t = ![0, 0] ∧ win0_1.index t = ![0, 0] ∧ win0_2.index t = ![0, 0] ∧ win0_3.index t = ![0, t.val] ∧ win0_4.index t = ![0, t.val]
    ∧ win0_5.index t = ![0, t.val] ∧ win0_6.index t = ![t.val, 0, 0] ∧ win0_7.index t = ![0, t.val, 0] ∧ win0_8.index t = ![0, 0, t.val]
    ∧ win0_9.index t = ![0, t.val] :=
  (by decide +kernel : ∀ t : Fin grid0.N, _)

variable (m : (ℓ : Loc nD τ sig) → Buf (Elt Ideal) ℓ) (ρ : Dev nD → PrngReg) (c : Dev nD)

/-- A function of five argument arrays, at what the five arguments hold on device `c`. -/
abbrev ofArgs {α : Type} (f : A2 20 54 → A2 20 54 → A2 4096 2560 → A2 2560 6912 → A2 2560 6912 → α) : α :=
  f (m ((c : Thread nD τ).loc main_arg0)) (m ((c : Thread nD τ).loc main_arg1)) (m ((c : Thread nD τ).loc main_arg2)) (m ((c : Thread nD τ).loc main_arg3)) (m ((c : Thread nD τ).loc main_arg4))

/-! ## The input blocks -/

/-- The block of the gate scales is the whole argument, at every point. -/
theorem iblk0_eq (t : Fin cfg0.N) : iblk m c 0 t = m ((c : Thread nD τ).loc main_arg0) := by
  funext j
  blk_ext! [iblk, V, idx t]

/-- The block of the up scales is the whole argument, at every point. -/
theorem iblk1_eq (t : Fin cfg0.N) : iblk m c 1 t = m ((c : Thread nD τ).loc main_arg1) := by
  funext j
  blk_ext! [iblk, V, idx t]

/-- The block of the activations is the whole argument, at every point. -/
theorem iblk2_eq (t : Fin cfg0.N) : iblk m c 2 t = m ((c : Thread nD τ).loc main_arg2) := by
  funext j
  blk_ext! [iblk, V, idx t]

/-- The block of the gate weight at point `t` is column block `t` of the argument. -/
theorem iblk3_apply (t : Fin cfg0.N) (k : Fin 2560) (n : Fin 256) :
    iblk m c 3 t (ix2 k n) = m ((c : Thread nD τ).loc main_arg3) (ix2 k (colIn t n)) := by
  blk_ext! [iblk, V, idx t, colIn]

/-- The block of the up weight at point `t` is column block `t` of the argument. -/
theorem iblk4_apply (t : Fin cfg0.N) (k : Fin 2560) (n : Fin 256) :
    iblk m c 4 t (ix2 k n) = m ((c : Thread nD τ).loc main_arg4) (ix2 k (colIn t n)) := by
  blk_ext! [iblk, V, idx t, colIn]

/-- A widened weight of a grid point is one of the whole widened weight matrix. -/
theorem wideB_block (i : grid0.Coords) (x : Vec Ideal S20x54 .f32) (w : Vec Ideal S2560x256 .fp8e4m3) (W : A2 2560 6912) (t : Fin 27)
    (hi : (i 0).val = t.val) (hw : ∀ (k : Fin 2560) (n : Fin 256), w (ix2 k n) = W (ix2 k (colIn t n))) (k : Fin 2560) (n : Fin 256) :
    wideB i x w k n = wide (fun a b => x (ix2 a b)) (fun a b => W (ix2 a b)) k (colIn t n) := by
  unfold wideB wide
  rw [hw]
  refine congrArg (fun q : Fin 54 => W (ix2 k (colIn t n)) * (x (ix2 ⟨k.val / 128, by omega⟩ q) : EReal)) (Fin.ext ?_)
  show 2 * (i 0).val + n.val / 128 = (256 * t.val + n.val) / 128
  omega

/-- The gated rows of a grid point, from its blocks, are its columns of the gated rows of whole arrays. -/
theorem hidB_block (i : grid0.Coords) (x0 x1 : Vec Ideal S20x54 .f32) (x2 : Vec Ideal S4096x2560 .bf16) (w3 w4 : Vec Ideal S2560x256 .fp8e4m3)
    (W3 W4 : A2 2560 6912) (t : Fin 27) (hi : (i 0).val = t.val)
    (h3 : ∀ (k : Fin 2560) (n : Fin 256), w3 (ix2 k n) = W3 (ix2 k (colIn t n))) (h4 : ∀ (k : Fin 2560) (n : Fin 256), w4 (ix2 k n) = W4 (ix2 k (colIn t n)))
    (r : Fin 4096) (n : Fin 256) : hidB i x0 x1 x2 w3 w4 r n = hidden x0 x1 x2 W3 W4 r (colIn t n) := by
  unfold hidB hidden hid
  simp only [wideB_block i _ _ _ t hi h3, wideB_block i _ _ _ t hi h4]

/-- The gated rows of a grid point are its columns of the gated rows of the arguments. -/
theorem hid_block (t : Fin cfg0.N) (r : Fin 4096) (n : Fin 256) :
    hidB (grid0.coords t) (iblk m c 0 t) (iblk m c 1 t) (iblk m c 2 t) (iblk m c 3 t) (iblk m c 4 t) r n = ofArgs m c hidden r (colIn t n) := by
  rw [iblk0_eq, iblk1_eq, iblk2_eq]
  exact hidB_block _ _ _ _ _ _ _ _ t (coord t) (iblk3_apply m c t) (iblk4_apply m c t) r n

/-! ## The results: each point's block is the specification's there, and the points' blocks cover the array -/

/-- Result 5 after the run: the row codes. -/
theorem final5 : (dats m 0 c).arrAt 5 cfg0.N = ofArgs m c res5 := by
  refine (dats m 0 c).arrAt_eq_of_covers 5 _ (by decide +kernel) fun t _ y => ?_
  have e : ((cfg0.win 5).blk t).view.emb y = ix2 (y 0) (colIn t (y 1)) := by blk_ext [idx t, colIn, scaleColIn]
  refine (congrFun ((Cert.KernelIdeal.Value.flushed5_A m c t).trans (congrArg _ (out5_eq ..))) y).trans ?_
  rw [e]
  exact codeAt_block _ (hid_block m c t) (y 0) (y 1)

/-- Result 6 after the run: the row scales. -/
theorem final6 : (dats m 0 c).arrAt 6 cfg0.N = ofArgs m c res6 := by
  refine (dats m 0 c).arrAt_eq_of_covers 6 _ (by decide +kernel) fun t _ y => ?_
  have e : ((cfg0.win 6).blk t).view.emb y = ix3 (scaleColIn t (y 0)) (y 1) (y 2) := by blk_ext [idx t, colIn, scaleColIn]
  refine (congrFun ((Cert.KernelIdeal.Value.flushed6_A m c t).trans (congrArg _ (out6_eq ..))) y).trans ?_
  rw [e]
  exact scaleRowAt_block _ (hid_block m c t) (y 0) (y 1) (y 2)

/-- Result 7 after the run: the column codes. -/
theorem final7 : (dats m 0 c).arrAt 7 cfg0.N = ofArgs m c res7 := by
  refine (dats m 0 c).arrAt_eq_of_covers 7 _ (by decide +kernel) fun t _ y => ?_
  have e : ((cfg0.win 7).blk t).view.emb y = ix3 (y 0) (colIn t (y 1)) (y 2) := by blk_ext [idx t, colIn, scaleColIn]
  refine (congrFun ((Cert.KernelIdeal.Value.flushed7_A m c t).trans (congrArg _ (out7_eq ..))) y).trans ?_
  rw [e]
  exact codeColAt_block _ (hid_block m c t) (y 0) (y 1) (y 2)

/-- Result 8 after the run: the column scales. -/
theorem final8 : (dats m 0 c).arrAt 8 cfg0.N = ofArgs m c res8 := by
  refine (dats m 0 c).arrAt_eq_of_covers 8 _ (by decide +kernel) fun t _ y => ?_
  have e : ((cfg0.win 8).blk t).view.emb y = ix3 (y 0) (y 1) (colIn t (y 2)) := by blk_ext [idx t, colIn, scaleColIn]
  refine (congrFun ((Cert.KernelIdeal.Value.flushed8_A m c t).trans (congrArg _ (out8_eq ..))) y).trans ?_
  rw [e]
  exact scaleColAt_block _ (hid_block m c t) (y 0) (y 1) (y 2)

/-- Result 9 after the run: the widened row codes. -/
theorem final9 : (dats m 0 c).arrAt 9 cfg0.N = ofArgs m c res9 := by
  refine (dats m 0 c).arrAt_eq_of_covers 9 _ (by decide +kernel) fun t _ y => ?_
  have e : ((cfg0.win 9).blk t).view.emb y = ix2 (y 0) (colIn t (y 1)) := by blk_ext [idx t, colIn, scaleColIn]
  refine (congrFun ((Cert.KernelIdeal.Value.flushed9_A m c t).trans (congrArg _ (out9_eq ..))) y).trans ?_
  rw [e]
  exact wideAt_block _ (hid_block m c t) (y 0) (y 1)

/-- The kernel runs to the five results, its arguments unchanged. -/
theorem run : θ_run defs (onTc (τ := τ) (main (F := Ideal))) ⟨m, fun _ => 0, ρ⟩ fun r => ∀ c : Dev nD,
      r.2.mem ((c : Thread nD τ).loc main_v0_0) = ofArgs m c res5
      ∧ r.2.mem ((c : Thread nD τ).loc main_v0_1) = ofArgs m c res6
      ∧ r.2.mem ((c : Thread nD τ).loc main_v0_2) = ofArgs m c res7
      ∧ r.2.mem ((c : Thread nD τ).loc main_v0_3) = ofArgs m c res8
      ∧ r.2.mem ((c : Thread nD τ).loc main_v0_4) = ofArgs m c res9
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c), (h c).2.2.2.1.trans (final8 m c), (h c).2.2.2.2.1.trans (final9 m c), (h c).2.2.2.2.2⟩)
    (Cert.KernelIdeal.Value.run_blocks m ρ)

end Cert.Up.KernelRun

end
-- ==== Proof.RefRead.lean ====
/-
  The reference's operations on whole arrays, read at an index over the extended reals.
-/
module

public import proofs.«01_k».proof.Proof.Results
public import proofs.«01_k».proof.Proof.Gen.ReferenceIdeal.Skeleton

@[expose] public section

set_option maxRecDepth 16384

noncomputable section

namespace Cert.Up.RefRead

open Idealize.ShloMosaic Idealize.ShloMosaic.TcCoe
open Cert.ReferenceIdeal Cert.ReferenceIdeal.Gen

variable {F : FTy → Type} [FloatOps F]

/-! ## The reference's operations, on any rows -/

/-- The largest magnitude of each group of 128 lanes. -/
def rowMax (v : FVec F S4096x6912 .f32) : FVec F S4096x54 .f32 :=
  multiReduction .maximumf [2] S4096x54 (absf (shapeCast S4096x54x128 v shapeCasts_S4096x6912_S4096x54x128)) 0xFF800000#32 reduces_S4096x54x128_S4096x54 (.inl rfl) rfl

/-- The same, over 448. -/
def rowAmax (v : FVec F S4096x6912 .f32) : FVec F S4096x54 .f32 :=
  mulf (rowMax v) (broadcast S4096x54 (Scalar.ofBits .f32 0x3B124925#32))

/-- The table of powers of two, along a new first axis. -/
def rowPow : FVec F S253x4096x54 .f32 :=
  exp2 (sitofp .f32 (subi (iota .tc S253x4096x54 32 [0] iota_S253x4096x54_d0_w32) (broadcast S253x4096x54 125#32)))

/-- The least power of two of the table above each entry. -/
def rowLeast (w : FVec F S4096x54 .f32) : FVec F S4096x54 .f32 :=
  multiReduction .minimumf [0] S4096x54
    (select (cmpf .ogt rowPow (broadcastTo S253x4096x54 (shapeCast S1x4096x54 w shapeCasts_S4096x54_S1x4096x54) broadcasts_S1x4096x54_S253x4096x54))
      rowPow (broadcast S253x4096x54 (Scalar.ofBits .f32 0x7F000000#32)))
    0x7F800000#32 reduces_S253x4096x54_S4096x54 (.inl rfl) rfl

/-- The scale of each group of 128 lanes. -/
def rowScales (v : FVec F S4096x6912 .f32) : FVec F S4096x54 .f32 :=
  select (cmpf .olt (rowAmax v) (broadcast S4096x54 (Scalar.ofBits .f32 0x00800000#32))) (broadcast S4096x54 (Scalar.ofBits .f32 0x3F800000#32))
    (rowLeast (rowAmax v))

/-- The largest magnitude of each group of 128 tokens. -/
def colMax (v : FVec F S4096x6912 .f32) : FVec F S32x6912 .f32 :=
  multiReduction .maximumf [1] S32x6912 (absf (shapeCast S32x128x6912 v shapeCasts_S4096x6912_S32x128x6912)) 0xFF800000#32 reduces_S32x128x6912_S32x6912 (.inl rfl) rfl

/-- The same, over 448. -/
def colAmax (v : FVec F S4096x6912 .f32) : FVec F S32x6912 .f32 :=
  mulf (colMax v) (broadcast S32x6912 (Scalar.ofBits .f32 0x3B124925#32))

/-- The table of powers of two, along a new first axis. -/
def colPow : FVec F S253x32x6912 .f32 :=
  exp2 (sitofp .f32 (subi (iota .tc S253x32x6912 32 [0] iota_S253x32x6912_d0_w32) (broadcast S253x32x6912 125#32)))

/-- The least power of two of the table above each entry. -/
def colLeast (w : FVec F S32x6912 .f32) : FVec F S32x6912 .f32 :=
  multiReduction .minimumf [0] S32x6912
    (select (cmpf .ogt colPow (broadcastTo S253x32x6912 (shapeCast S1x32x6912 w shapeCasts_S32x6912_S1x32x6912) broadcasts_S1x32x6912_S253x32x6912))
      colPow (broadcast S253x32x6912 (Scalar.ofBits .f32 0x7F000000#32)))
    0x7F800000#32 reduces_S253x32x6912_S32x6912 (.inl rfl) rfl

/-- The scale of each group of 128 tokens. -/
def colScales (v : FVec F S4096x6912 .f32) : FVec F S32x6912 .f32 :=
  select (cmpf .olt (colAmax v) (broadcast S32x6912 (Scalar.ofBits .f32 0x00800000#32))) (broadcast S32x6912 (Scalar.ofBits .f32 0x3F800000#32))
    (colLeast (colAmax v))

/-- The codes of the rows `v`, given the scale `s` of each group of 128 lanes. -/
def rowCodes (v : FVec F S4096x6912 .f32) (s : FVec F S4096x54 .f32) : FVec F S4096x54x128 .fp8e4m3 :=
  truncf .fp8e4m3 (minimumf (broadcast S4096x54x128 (Scalar.ofBits .f32 0x43E00000#32)) (maximumf (broadcast S4096x54x128 (Scalar.ofBits .f32 0xC3E00000#32))
    (mulf (shapeCast S4096x54x128 v shapeCasts_S4096x6912_S4096x54x128)
      (broadcastTo S4096x54x128 (shapeCast S4096x54x1 (divf (broadcast S4096x54 (Scalar.ofBits .f32 0x3F800000#32)) s) shapeCasts_S4096x54_S4096x54x1)
        broadcasts_S4096x54x1_S4096x54x128)))) bitsLt_fp8e4m3_f32

/-- First result. -/
def out5 (v : FVec F S4096x6912 .f32) (s : FVec F S4096x54 .f32) : FVec F S4096x6912 .fp8e4m3 :=
  shapeCast S4096x6912 (rowCodes v s) shapeCasts_S4096x54x128_S4096x6912

/-- Second result. -/
def out6 (s : FVec F S4096x54 .f32) : FVec F S54x2x2048 .f32 :=
  shapeCast S54x2x2048 (transpose S54x4096 [1, 0] s transposes_S4096x54_p1_0_S54x4096) shapeCasts_S54x4096_S54x2x2048

/-- Third result. -/
def out7 (v : FVec F S4096x6912 .f32) (s : FVec F S32x6912 .f32) : FVec F S2x6912x2048 .fp8e4m3 :=
  transpose S2x6912x2048 [0, 2, 1] (shapeCast S2x2048x6912 (truncf .fp8e4m3 (minimumf (broadcast S32x128x6912 (Scalar.ofBits .f32 0x43E00000#32))
    (maximumf (broadcast S32x128x6912 (Scalar.ofBits .f32 0xC3E00000#32)) (mulf (shapeCast S32x128x6912 v shapeCasts_S4096x6912_S32x128x6912)
      (broadcastTo S32x128x6912 (shapeCast S32x1x6912 (divf (broadcast S32x6912 (Scalar.ofBits .f32 0x3F800000#32)) s) shapeCasts_S32x6912_S32x1x6912)
        broadcasts_S32x1x6912_S32x128x6912)))) bitsLt_fp8e4m3_f32) shapeCasts_S32x128x6912_S2x2048x6912) transposes_S2x2048x6912_p0_2_1_S2x6912x2048

/-- Fourth result. -/
def out8 (s : FVec F S32x6912 .f32) : FVec F S2x16x6912 .f32 :=
  shapeCast S2x16x6912 s shapeCasts_S32x6912_S2x16x6912

/-- Fifth result. -/
def out9 (v : FVec F S4096x6912 .f32) (s : FVec F S4096x54 .f32) : FVec F S4096x6912 .bf16 :=
  shapeCast S4096x6912 (mulf (extf .bf16 (rowCodes v s) bitsLt_fp8e4m3_bf16)
    (broadcastTo S4096x54x128 (shapeCast S4096x54x1 (truncf .bf16 s bitsLt_bf16_f32) shapeCasts_S4096x54_S4096x54x1) broadcasts_S4096x54x1_S4096x54x128))
    shapeCasts_S4096x54x128_S4096x6912

/-! ## Read at an index

The lemmas of a comparison or a product take the operands as variables with an equation for their value. -/

section Parts

variable {s : Shape} {S w u M : FVec Ideal s .f32} {x : s.Idx} {X : EReal}

/-- A product with the constant 1/448, at an index, from the value of the other factor there. -/
theorem amax_parts (hw : w = mulf M (broadcast s (Scalar.ofBits .f32 0x3B124925#32))) (hM : M x = X) : w x = X * Ideal.ofBits .f32 0x3B124925#32 := by
  subst hw
  pointwise [hM]

/-- A scale at an index, from the operand and the least power above it there. -/
theorem scale_parts
    (hS : S = select (cmpf .olt w (broadcast s (Scalar.ofBits .f32 0x00800000#32))) (broadcast s (Scalar.ofBits .f32 0x3F800000#32)) u)
    (hw : w x = X) (hu : u x = (Finset.univ : Finset (Fin 253)).fold min ⊤
      (fun k => if w x < tw ((k.val : ℤ) - 125) then tw ((k.val : ℤ) - 125) else tw 127)) : S x = pow2R X := by
  subst hS
  pointwise [hu, hw]
  rw [bits_tw_neg126]
  rfl

end Parts

section Read

variable (v : FVec Ideal S4096x6912 .f32)

/-- The rows as a matrix. -/
def mat : Fin 4096 → Fin 6912 → EReal := fun r n => v (ix2 r n)

/-- Every group of 128 lanes lies in a row. -/
theorem rowGroupIn (q : Fin 54) : 128 * q.val + 128 ≤ 6912 := by omega
/-- Every group of 128 tokens lies in a column. -/
theorem colGroupIn (u : Fin 32) : 128 * u.val + 128 ≤ 4096 := by omega

/-- The largest magnitude of a group of 128 lanes of a token. -/
theorem rowMax_apply (r : Fin 4096) (q : Fin 54) :
    rowMax v (ix2 r q) = Finset.univ.fold max ⊥ fun k => max (rowGroup (mat v) r q.val (rowGroupIn q) k) (-(rowGroup (mat v) r q.val (rowGroupIn q) k)) := by
  pointwise [rowMax]
  rw [bits_bot]
  refine congrArg (fun f : Fin 128 → EReal => (Finset.univ : Finset (Fin 128)).fold max ⊥ f) (funext fun k => ?_)
  exact congrArg (fun z => max (v (ix2 r z)) (-(v (ix2 r z)))) (Fin.ext (show q.val * 128 + k.val = 128 * q.val + k.val by omega))

/-- The same over 448. -/
theorem rowAmax_apply (r : Fin 4096) (q : Fin 54) :
    rowAmax v (ix2 r q) = (Finset.univ.fold max ⊥ fun k => max (rowGroup (mat v) r q.val (rowGroupIn q) k) (-(rowGroup (mat v) r q.val (rowGroupIn q) k))) * Ideal.ofBits .f32 0x3B124925#32 :=
  amax_parts (M := rowMax v) rfl (rowMax_apply v r q)

/-- Entry `k` of the table of powers is `2 ^ (k - 125)`. -/
theorem rowPow_apply (k : Fin 253) (r : Fin 4096) (q : Fin 54) : rowPow (F := Ideal) (ix3 k r q) = tw ((k.val : ℤ) - 125) := by
  pointwise [rowPow]
  exact exp2_entry k

/-- The least entry of the table above an operand. -/
theorem rowLeast_apply (w : FVec Ideal S4096x54 .f32) (r : Fin 4096) (q : Fin 54) :
    rowLeast w (ix2 r q) = (Finset.univ : Finset (Fin 253)).fold min ⊤
      (fun k => if w (ix2 r q) < tw ((k.val : ℤ) - 125) then tw ((k.val : ℤ) - 125) else tw 127) := by
  pointwise [rowLeast, rowPow_apply]
  rw [bits_top, bits_tw_127]

/-- The reference's scales are those of the groups. -/
theorem rowScales_apply (r : Fin 4096) (q : Fin 54) : rowScales v (ix2 r q) = scaleOf (rowGroup (mat v) r q.val (rowGroupIn q)) :=
  scale_parts (w := rowAmax v) rfl (rowAmax_apply v r q) (rowLeast_apply _ r q)

/-- The largest magnitude of a group of 128 tokens of a lane. -/
theorem colMax_apply (u : Fin 32) (n : Fin 6912) :
    colMax v (ix2 u n) = Finset.univ.fold max ⊥ fun k => max (colGroup (mat v) u.val (colGroupIn u) n k) (-(colGroup (mat v) u.val (colGroupIn u) n k)) := by
  pointwise [colMax]
  rw [bits_bot]
  refine congrArg (fun f : Fin 128 → EReal => (Finset.univ : Finset (Fin 128)).fold max ⊥ f) (funext fun k => ?_)
  exact congrArg (fun z => max (v (ix2 z n)) (-(v (ix2 z n)))) (Fin.ext (show u.val * 128 + k.val = 128 * u.val + k.val by omega))

/-- The same over 448. -/
theorem colAmax_apply (u : Fin 32) (n : Fin 6912) :
    colAmax v (ix2 u n) = (Finset.univ.fold max ⊥ fun k => max (colGroup (mat v) u.val (colGroupIn u) n k) (-(colGroup (mat v) u.val (colGroupIn u) n k))) * Ideal.ofBits .f32 0x3B124925#32 :=
  amax_parts (M := colMax v) rfl (colMax_apply v u n)

/-- Entry `k` of the table of powers is `2 ^ (k - 125)`. -/
theorem colPow_apply (k : Fin 253) (u : Fin 32) (n : Fin 6912) : colPow (F := Ideal) (ix3 k u n) = tw ((k.val : ℤ) - 125) := by
  pointwise [colPow]
  exact exp2_entry k

/-- The least entry of the table above an operand. -/
theorem colLeast_apply (w : FVec Ideal S32x6912 .f32) (u : Fin 32) (n : Fin 6912) :
    colLeast w (ix2 u n) = (Finset.univ : Finset (Fin 253)).fold min ⊤
      (fun k => if w (ix2 u n) < tw ((k.val : ℤ) - 125) then tw ((k.val : ℤ) - 125) else tw 127) := by
  pointwise [colLeast, colPow_apply]
  rw [bits_top, bits_tw_127]

/-- The reference's scales are those of the groups. -/
theorem colScales_apply (u : Fin 32) (n : Fin 6912) : colScales v (ix2 u n) = scaleOf (colGroup (mat v) u.val (colGroupIn u) n) :=
  scale_parts (w := colAmax v) rfl (colAmax_apply v u n) (colLeast_apply _ u n)

/-! ## The five results, given the scales -/

/-- The code of a value, given its scale. -/
def codeBy (y t : EReal) : EReal := min (Ideal.ofBits .f32 0x43E00000#32) (max (Ideal.ofBits .f32 0xC3E00000#32) (y * Ideal.div 1 t))

variable (s : FVec Ideal S4096x54 .f32) (t : FVec Ideal S32x6912 .f32)

/-- A row code: the entry over the scale of its group, clipped. -/
theorem out5_apply (r : Fin 4096) (n : Fin 6912) : out5 v s (ix2 r n) = codeBy (v (ix2 r n)) (s (ix2 r ⟨n.val / 128, by omega⟩)) := by
  pointwise [out5, rowCodes]
  rfl

/-- A row scale, found by sequence and token. -/
theorem out6_apply (q : Fin 54) (b : Fin 2) (z : Fin 2048) : out6 s (ix3 q b z) = s (ix2 ⟨2048 * b.val + z.val, by omega⟩ q) := by
  pointwise [out6]
  refine congrArg (fun r => s (ix2 r q)) (Fin.ext (show b.val * 2048 + z.val = 2048 * b.val + z.val by omega))

/-- A transposed column code: the entry over the scale of its group, clipped. -/
theorem out7_apply (b : Fin 2) (n : Fin 6912) (z : Fin 2048) :
    out7 v t (ix3 b n z) = codeBy (v (ix2 ⟨2048 * b.val + z.val, by omega⟩ n)) (t (ix2 ⟨16 * b.val + z.val / 128, by omega⟩ n)) := by
  pointwise [out7]
  have e1 : (⟨(b.val * 16 + z.val / 128) * 128 + z.val % 128, by omega⟩ : Fin 4096) = ⟨2048 * b.val + z.val, by omega⟩ :=
    Fin.ext (show (b.val * 16 + z.val / 128) * 128 + z.val % 128 = 2048 * b.val + z.val by omega)
  have e2 : (⟨b.val * 16 + z.val / 128, by omega⟩ : Fin 32) = ⟨16 * b.val + z.val / 128, by omega⟩ :=
    Fin.ext (show b.val * 16 + z.val / 128 = 16 * b.val + z.val / 128 by omega)
  rw [e1, e2]
  rfl

/-- A column scale, found by sequence and group of tokens. -/
theorem out8_apply (b : Fin 2) (u : Fin 16) (n : Fin 6912) : out8 t (ix3 b u n) = t (ix2 ⟨16 * b.val + u.val, by omega⟩ n) := by
  pointwise [out8]
  refine congrArg (fun r => t (ix2 r n)) (Fin.ext (show b.val * 16 + u.val = 16 * b.val + u.val by omega))

/-- A row code times its scale. -/
theorem out9_apply (r : Fin 4096) (n : Fin 6912) :
    out9 v s (ix2 r n) = codeBy (v (ix2 r n)) (s (ix2 r ⟨n.val / 128, by omega⟩)) * s (ix2 r ⟨n.val / 128, by omega⟩) := by
  pointwise [out9, rowCodes]
  rfl

/-! ## The five results are those of the specification -/

/-- An entry of a group over the group's scale is its code. -/
theorem codeBy_group {f : Fin 128 → EReal} {k : Fin 128} {y t : EReal} (hy : y = f k) (ht : t = scaleOf f) : codeBy y t = codeOf f k := by
  rw [hy, ht]
  rfl

/-- The code times the scale is the widened code. -/
theorem wideBy_group {f : Fin 128 → EReal} {k : Fin 128} {y t : EReal} (hy : y = f k) (ht : t = scaleOf f) : codeBy y t * t = wideOf f k := by
  rw [hy, ht]
  rfl

section Res

variable {v s t} {x0 x1 : A2 20 54} {x2 : A2 4096 2560} {x3 x4 : A2 2560 6912} (hv : mat v = hidden x0 x1 x2 x3 x4)

include hv

/-- The row codes are the specification's, if the scales are. -/
theorem out5_res (hs : ∀ r q, s (ix2 r q) = scaleOf (rowGroup (mat v) r q.val (rowGroupIn q))) : out5 v s = res5 x0 x1 x2 x3 x4 := by
  funext y
  obtain ⟨r, n, rfl⟩ : ∃ (r : Fin 4096) (n : Fin 6912), y = ix2 r n := ⟨y 0, y 1, eq_ix2 y⟩
  refine (out5_apply v s r n).trans ?_
  unfold res5
  rw [← hv]
  exact codeBy_group (at_congr (mat v) rfl (show n.val = 128 * (n.val / 128) + n.val % 128 by omega)) (hs r _)

/-- The row scales are the specification's, if the scales are. -/
theorem out6_res (hs : ∀ r q, s (ix2 r q) = scaleOf (rowGroup (mat v) r q.val (rowGroupIn q))) : out6 s = res6 x0 x1 x2 x3 x4 := by
  funext y
  obtain ⟨q, b, z, rfl⟩ : ∃ (q : Fin 54) (b : Fin 2) (z : Fin 2048), y = ix3 q b z := ⟨y 0, y 1, y 2, eq_ix3 y⟩
  refine (out6_apply s q b z).trans ?_
  unfold res6
  rw [← hv]
  exact hs _ q

/-- The transposed column codes are the specification's, if the scales are. -/
theorem out7_res (ht : ∀ u n, t (ix2 u n) = scaleOf (colGroup (mat v) u.val (colGroupIn u) n)) : out7 v t = res7 x0 x1 x2 x3 x4 := by
  funext y
  obtain ⟨b, n, z, rfl⟩ : ∃ (b : Fin 2) (n : Fin 6912) (z : Fin 2048), y = ix3 b n z := ⟨y 0, y 1, y 2, eq_ix3 y⟩
  refine (out7_apply v t b n z).trans ?_
  unfold res7
  rw [← hv]
  exact codeBy_group (at_congr (mat v) (show 2048 * b.val + z.val = 128 * (16 * b.val + z.val / 128) + z.val % 128 by omega) rfl) (ht _ n)

/-- The column scales are the specification's, if the scales are. -/
theorem out8_res (ht : ∀ u n, t (ix2 u n) = scaleOf (colGroup (mat v) u.val (colGroupIn u) n)) : out8 t = res8 x0 x1 x2 x3 x4 := by
  funext y
  obtain ⟨b, u, n, rfl⟩ : ∃ (b : Fin 2) (u : Fin 16) (n : Fin 6912), y = ix3 b u n := ⟨y 0, y 1, y 2, eq_ix3 y⟩
  refine (out8_apply t b u n).trans ?_
  unfold res8
  rw [← hv]
  exact ht _ n

/-- The widened row codes are the specification's, if the scales are. -/
theorem out9_res (hs : ∀ r q, s (ix2 r q) = scaleOf (rowGroup (mat v) r q.val (rowGroupIn q))) : out9 v s = res9 x0 x1 x2 x3 x4 := by
  funext y
  obtain ⟨r, n, rfl⟩ : ∃ (r : Fin 4096) (n : Fin 6912), y = ix2 r n := ⟨y 0, y 1, eq_ix2 y⟩
  refine (out9_apply v s r n).trans ?_
  unfold res9
  rw [← hv]
  exact wideBy_group (at_congr (mat v) rfl (show n.val = 128 * (n.val / 128) + n.val % 128 by omega)) (hs r _)

end Res

end Read

/-! ## The generated payloads are these operations of the gated rows -/

section Hidden

variable (v0 : Vec Ideal S4096x2560 .bf16) (v1 : Vec Ideal S2560x6912 .fp8e4m3) (v4 : Vec Ideal S20x54 .f32) (v11 : Vec Ideal S2560x6912 .fp8e4m3)
  (v14 : Vec Ideal S20x54 .f32)

/-- The reference's gated rows. -/
theorem pay4_apply (r : Fin 4096) (n : Fin 6912) : k0_pay4 v0 v1 v4 v11 v14 (ix2 r n) = hidden v4 v14 v0 v1 v11 r n := by
  pointwise [k0_pay4]
  rfl

/-- The gated rows of the body are the specification's. -/
theorem mat_pay4 : mat (k0_pay4 v0 v1 v4 v11 v14) = hidden v4 v14 v0 v1 v11 :=
  funext fun r => funext fun n => pay4_apply v0 v1 v4 v11 v14 r n

end Hidden

end Cert.Up.RefRead

end
-- ==== Proof.RefBlock.lean ====
/-
  What the reference's body leaves in each result, in the operations of `RefRead`.
-/
module

public import proofs.«01_k».proof.Proof.RefRead
public import proofs.«01_k».proof.Proof.Gen.ReferenceIdeal.Frame
public import Idealize.ShloMosaic.Lib.Pipeline.Value

@[expose] public section

set_option maxRecDepth 16384

noncomputable section

namespace Cert.Up.RefRead

open Idealize.ShloMosaic Idealize.ShloMosaic.TcCoe
open Cert.ReferenceIdeal Cert.ReferenceIdeal.Gen

variable {F : FTy → Type} [FloatOps F]

section Pay

variable (a : Vec F S4096x2560 .bf16) (b : Vec F S2560x6912 .fp8e4m3) (c : Vec F S20x54 .f32) (d : Vec F S2560x6912 .fp8e4m3) (e : Vec F S20x54 .f32)

/-! The stored values are the five operations of the gated rows and of their scales. -/

/-- The stored row codes are `out5` of the gated rows and their scales. -/
theorem pay_out5 : k0_pay11 (k0_pay5 a b c d e) (k0_pay7 a b c d e) (k0_pay8 a b c d e) = out5 (k0_pay4 a b c d e) (rowScales (k0_pay4 a b c d e)) := rfl

/-- The stored row scales are `out6` of the gated rows and their scales. -/
theorem pay_out6 : k0_pay13 (k0_pay7 a b c d e) (k0_pay8 a b c d e) = out6 (rowScales (k0_pay4 a b c d e)) := rfl

/-- The stored widened row codes are `out9` of the gated rows and their scales. -/
theorem pay_out9 : k0_pay12 (k0_pay5 a b c d e) (k0_pay7 a b c d e) (k0_pay8 a b c d e) = out9 (k0_pay4 a b c d e) (rowScales (k0_pay4 a b c d e)) := rfl

/-- The stored transposed column codes are `out7` of the gated rows and their scales. -/
theorem pay_out7 (v : FVec F S4096x6912 .f32) : k0_pay2 (k0_pay14 v) (k0_pay15 v) (k0_pay16 v) (Scalar.ofBits .f32 0x00800000#32) = out7 v (colScales v) := rfl

/-- The stored column scales are `out8` of the gated rows and their scales. -/
theorem pay_out8 (v : FVec F S4096x6912 .f32) : k0_pay3 (k0_pay15 v) (k0_pay16 v) (Scalar.ofBits .f32 0x00800000#32) = out8 (colScales v) := rfl

end Pay

variable (x0 x1 : Vec F S20x54 .f32) (x2 : Vec F S4096x2560 .bf16) (x3 x4 : Vec F S2560x6912 .fp8e4m3)

/-- The gated rows, from the body's five operands. -/
def rows : FVec F S4096x6912 .f32 := k0_pay4 x2 x3 x0 x4 x1

/-- A load or store at offsets zero, two axes. -/
theorem hz2 : (![0, 0] : Fin 2 → Nat) = fun _ => 0 := funext fun a => by fin_cases a <;> rfl
/-- A load or store at offsets zero, three axes. -/
theorem hz3 : (![0, 0, 0] : Fin 3 → Nat) = fun _ => 0 := funext fun a => by fin_cases a <;> rfl

/-- What the body leaves in the array of row codes. -/
theorem out0_5_eq : out0_5 x0 x1 x2 x3 x4 = out5 (rows x0 x1 x2 x3 x4) (rowScales (rows x0 x1 x2 x3 x4)) := by
  unfold out0_5 k0_pay20 k0_pay19 k0_pay18
  rw [View.ld_unit_zero hz2, View.ld_unit_zero hz2, View.ld_unit_zero hz2, View.ld_unit_zero hz2, View.ld_unit_zero hz2, View.canon_unit_zero hz2]
  exact pay_out5 _ _ _ _ _

/-- What the body leaves in the array of row scales. -/
theorem out0_6_eq : out0_6 x0 x1 x2 x3 x4 = out6 (rowScales (rows x0 x1 x2 x3 x4)) := by
  unfold out0_6 k0_pay20 k0_pay19
  rw [View.ld_unit_zero hz2, View.ld_unit_zero hz2, View.ld_unit_zero hz2, View.ld_unit_zero hz2, View.ld_unit_zero hz2, View.canon_unit_zero hz3]
  exact pay_out6 _ _ _ _ _

/-- What the body leaves in the array of transposed column codes. -/
theorem out0_7_eq : out0_7 x0 x1 x2 x3 x4 = out7 (rows x0 x1 x2 x3 x4) (colScales (rows x0 x1 x2 x3 x4)) := by
  unfold out0_7 k0_pay22 k0_pay21 k0_pay17
  rw [View.ld_unit_zero hz2, View.ld_unit_zero hz2, View.ld_unit_zero hz2, View.ld_unit_zero hz2, View.ld_unit_zero hz2, View.canon_unit_zero hz3]
  exact pay_out7 _

/-- What the body leaves in the array of column scales. -/
theorem out0_8_eq : out0_8 x0 x1 x2 x3 x4 = out8 (colScales (rows x0 x1 x2 x3 x4)) := by
  unfold out0_8 k0_pay22 k0_pay21 k0_pay17
  rw [View.ld_unit_zero hz2, View.ld_unit_zero hz2, View.ld_unit_zero hz2, View.ld_unit_zero hz2, View.ld_unit_zero hz2, View.canon_unit_zero hz3]
  exact pay_out8 _

/-- What the body leaves in the array of widened row codes. -/
theorem out0_9_eq : out0_9 x0 x1 x2 x3 x4 = out9 (rows x0 x1 x2 x3 x4) (rowScales (rows x0 x1 x2 x3 x4)) := by
  unfold out0_9 k0_pay20 k0_pay19 k0_pay18
  rw [View.ld_unit_zero hz2, View.ld_unit_zero hz2, View.ld_unit_zero hz2, View.ld_unit_zero hz2, View.ld_unit_zero hz2, View.canon_unit_zero hz2]
  exact pay_out9 _ _ _ _ _

end Cert.Up.RefRead

end
-- ==== Proof.RefRun.lean ====
/-
  The reference's run over the extended reals: its five result arrays are the five functions of the arguments.
-/
module

public import proofs.«01_k».proof.Proof.RefBlock
public import Idealize.ShloMosaic.Lib.Pipeline.ValueKit

@[expose] public section

set_option maxRecDepth 16384

noncomputable section

namespace Cert.Up.RefRun

open Idealize.ShloMosaic Idealize.ShloMosaic.TcCoe Idealize.SL.Sem
open Idealize.ShloMosaic.Pipeline (Dat)
open Cert.ReferenceIdeal Cert.ReferenceIdeal.Gen Cert.Up.RefRead

/-- Every window has one block, at index zero: its whole array. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

variable (m : (ℓ : Loc nD τ sig) → Buf (Elt Ideal) ℓ) (ρ : Dev nD → PrngReg) (c : Dev nD)

/-- A function of five argument arrays, at what the five arguments hold on device `c`. -/
abbrev ofArgs {α : Type} (f : A2 20 54 → A2 20 54 → A2 4096 2560 → A2 2560 6912 → A2 2560 6912 → α) : α :=
  f (m ((c : Thread nD τ).loc main_arg0)) (m ((c : Thread nD τ).loc main_arg1)) (m ((c : Thread nD τ).loc main_arg2)) (m ((c : Thread nD τ).loc main_arg3)) (m ((c : Thread nD τ).loc main_arg4))

/-! ## The input blocks -/

/-- The block of the gate scales is the argument. -/
theorem iblk0_eq (t : Fin cfg0.N) : iblk m c 0 t = m ((c : Thread nD τ).loc main_arg0) := by
  funext j
  blk_ext! [iblk, V, idx t]

/-- The block of the up scales is the argument. -/
theorem iblk1_eq (t : Fin cfg0.N) : iblk m c 1 t = m ((c : Thread nD τ).loc main_arg1) := by
  funext j
  blk_ext! [iblk, V, idx t]

/-- The block of the activations is the argument. -/
theorem iblk2_eq (t : Fin cfg0.N) : iblk m c 2 t = m ((c : Thread nD τ).loc main_arg2) := by
  funext j
  blk_ext! [iblk, V, idx t]

/-- The block of the gate weight is the argument. -/
theorem iblk3_eq (t : Fin cfg0.N) : iblk m c 3 t = m ((c : Thread nD τ).loc main_arg3) := by
  funext j
  blk_ext! [iblk, V, idx t]

/-- The block of the up weight is the argument. -/
theorem iblk4_eq (t : Fin cfg0.N) : iblk m c 4 t = m ((c : Thread nD τ).loc main_arg4) := by
  funext j
  blk_ext! [iblk, V, idx t]

/-- The body's gated rows, read at row and column, are the specification's. -/
theorem mat_rows (x0 x1 : Vec Ideal S20x54 .f32) (x2 : Vec Ideal S4096x2560 .bf16) (x3 x4 : Vec Ideal S2560x6912 .fp8e4m3) :
    mat (rows x0 x1 x2 x3 x4) = hidden x0 x1 x2 x3 x4 := mat_pay4 x2 x3 x0 x4 x1

/-! ## The results: the one point writes each whole array -/

/-- Result 5 after the run: the row codes. -/
theorem final5 : (dats m 0 c).arrAt 5 cfg0.N = ofArgs m c res5 := by
  refine (dats m 0 c).arrAt_eq_of_after_last 5 t0_0 (by decide +kernel) _ fun j => ?_
  blk_simp
  rw [after0_5, iblk0_eq, iblk1_eq, iblk2_eq, iblk3_eq, iblk4_eq, out0_5_eq, out5_res (mat_rows ..) (rowScales_apply _)]

/-- Result 6 after the run: the row scales. -/
theorem final6 : (dats m 0 c).arrAt 6 cfg0.N = ofArgs m c res6 := by
  refine (dats m 0 c).arrAt_eq_of_after_last 6 t0_0 (by decide +kernel) _ fun j => ?_
  blk_simp
  rw [after0_6, iblk0_eq, iblk1_eq, iblk2_eq, iblk3_eq, iblk4_eq, out0_6_eq, out6_res (mat_rows ..) (rowScales_apply _)]

/-- Result 7 after the run: the column codes. -/
theorem final7 : (dats m 0 c).arrAt 7 cfg0.N = ofArgs m c res7 := by
  refine (dats m 0 c).arrAt_eq_of_after_last 7 t0_0 (by decide +kernel) _ fun j => ?_
  blk_simp
  rw [after0_7, iblk0_eq, iblk1_eq, iblk2_eq, iblk3_eq, iblk4_eq, out0_7_eq, out7_res (mat_rows ..) (colScales_apply _)]

/-- Result 8 after the run: the column scales. -/
theorem final8 : (dats m 0 c).arrAt 8 cfg0.N = ofArgs m c res8 := by
  refine (dats m 0 c).arrAt_eq_of_after_last 8 t0_0 (by decide +kernel) _ fun j => ?_
  blk_simp
  rw [after0_8, iblk0_eq, iblk1_eq, iblk2_eq, iblk3_eq, iblk4_eq, out0_8_eq, out8_res (mat_rows ..) (colScales_apply _)]

/-- Result 9 after the run: the widened row codes. -/
theorem final9 : (dats m 0 c).arrAt 9 cfg0.N = ofArgs m c res9 := by
  refine (dats m 0 c).arrAt_eq_of_after_last 9 t0_0 (by decide +kernel) _ fun j => ?_
  blk_simp
  rw [after0_9, iblk0_eq, iblk1_eq, iblk2_eq, iblk3_eq, iblk4_eq, out0_9_eq, out9_res (mat_rows ..) (rowScales_apply _)]

/-- The reference runs to the five results, its arguments unchanged. -/
theorem run : θ_run defs (onTc (τ := τ) (main (F := Ideal))) ⟨m, fun _ => 0, ρ⟩ fun r => ∀ c : Dev nD,
      r.2.mem ((c : Thread nD τ).loc main_v0_0) = ofArgs m c res5
      ∧ r.2.mem ((c : Thread nD τ).loc main_v0_1) = ofArgs m c res6
      ∧ r.2.mem ((c : Thread nD τ).loc main_v0_2) = ofArgs m c res7
      ∧ r.2.mem ((c : Thread nD τ).loc main_v0_3) = ofArgs m c res8
      ∧ r.2.mem ((c : Thread nD τ).loc main_v0_4) = ofArgs m c res9
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c),
      ((h c).1 6).trans (final6 m c),
      ((h c).1 7).trans (final7 m c),
      ((h c).1 8).trans (final8 m c),
      ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Up.RefRun

end
-- ==== Proof.lean ====
/-
  The proof of the certificate's claims: the three frames, the (empty) idealization, and the equality of the kernel's
  and the reference's five results over the extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.KernelRun
public import proofs.«01_k».proof.Proof.RefRun
public import Idealize.ShloMosaic.Adequacy
public import Idealize.ShloMosaic.Init

@[expose] public section

noncomputable section

namespace Cert.Proof

open Idealize.ShloMosaic Idealize.SL.Sem Cert.Up

/-- The kernel and the reference end with the same five results, each the specification's function of the arguments. -/
theorem algebraic : algebraic_KernelIdeal_ReferenceIdeal (hKernelIdeal := Cert.KernelIdeal.Gen.facts) (hReferenceIdeal := Cert.ReferenceIdeal.Gen.facts) := by
  intro m g m' g' _ h
  refine ⟨fun c => KernelRun.ofArgs m c res5, fun c => KernelRun.ofArgs m c res6, fun c => KernelRun.ofArgs m c res7,
    fun c => KernelRun.ofArgs m c res8, fun c => KernelRun.ofArgs m c res9,
    KernelRun.run m g, (θ_run _ _ _).mono (fun r hr c => ?_) (RefRun.run m' g')⟩
  obtain ⟨e0, e1, e2, e3, e4⟩ := h c
  have e {α : Type} (f : A2 20 54 → A2 20 54 → A2 4096 2560 → A2 2560 6912 → A2 2560 6912 → α) : RefRun.ofArgs m' c f = KernelRun.ofArgs m c f := by
    show f _ _ _ _ _ = f _ _ _ _ _
    rw [e0, e1, e2, e3, e4]
  obtain ⟨h5, h6, h7, h8, h9, hin⟩ := hr c
  exact ⟨h5.trans (e _), h6.trans (e _), h7.trans (e _), h8.trans (e _), h9.trans (e _), hin⟩

/-- The certificate: the three programs' facts, their frames, the idealization, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
